-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "fifteenth" .f32 0x3D888889#32 ((15⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S_ : Shape := ⟨0, ![]⟩
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S1000x10000 : Shape := ⟨2, ![1000, 10000]⟩
abbrev S1000x64 : Shape := ⟨2, ![1000, 64]⟩

abbrev nBuf : Space → Nat
  | .hbm => 13
  | .vmem => 24
  | .smem => 0
  | _ => 0

abbrev bufTy : (tb : Table) → Fin (tcTables nBuf tb) → BufTy
  | .hbm, ⟨0, _⟩ => ⟨S_, .i32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x128, .f32⟩
  | .hbm, ⟨8, _⟩ => ⟨S1x64, .f32⟩
  | .hbm, ⟨9, _⟩ => ⟨S10000x64, .bf16⟩
  | .hbm, ⟨10, _⟩ => ⟨S10000x10000, .i4⟩
  | .hbm, ⟨11, _⟩ => ⟨S10000x64, .bf16⟩
  | .hbm, ⟨12, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S1x128, .f32⟩
  | .local _ .vmem, ⟨5, _⟩ => ⟨S128x64, .f32⟩
  | .local _ .vmem, ⟨6, _⟩ => ⟨S400x64, .bf16⟩
  | .local _ .vmem, ⟨7, _⟩ => ⟨S400x64, .bf16⟩
  | .local _ .vmem, ⟨8, _⟩ => ⟨S400x10000, .i4⟩
  | .local _ .vmem, ⟨9, _⟩ => ⟨S400x10000, .i4⟩
  | .local _ .vmem, ⟨10, _⟩ => ⟨S10000x128, .bf16⟩
  | .local _ .vmem, ⟨11, _⟩ => ⟨S1000x10000, .i4⟩
  | .local _ .vmem, ⟨12, _⟩ => ⟨S1000x10000, .i4⟩
  | .local _ .vmem, ⟨13, _⟩ => ⟨S10000x64, .bf16⟩
  | .local _ .vmem, ⟨14, _⟩ => ⟨S1000x64, .bf16⟩
  | .local _ .vmem, ⟨15, _⟩ => ⟨S1000x64, .bf16⟩
  | .local _ .vmem, ⟨16, _⟩ => ⟨S1000x10000, .bf16⟩
  | .local _ .vmem, ⟨17, _⟩ => ⟨S1000x10000, .i4⟩
  | .local _ .vmem, ⟨18, _⟩ => ⟨S1000x10000, .i4⟩
  | .local _ .vmem, ⟨19, _⟩ => ⟨S10000x64, .bf16⟩
  | .local _ .vmem, ⟨20, _⟩ => ⟨S1x64, .f32⟩
  | .local _ .vmem, ⟨21, _⟩ => ⟨S1000x64, .f32⟩
  | .local _ .vmem, ⟨22, _⟩ => ⟨S1000x64, .f32⟩
  | .local _ .vmem, ⟨23, _⟩ => ⟨S1000x10000, .bf16⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x10000 .i4 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .i4 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .i4 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== KernelIdeal.lean ====
variable {F : FTy → Type} [FloatOps F] [Named F]
def κ : String → Option EReal := fun
  | "fifteenth" => some ((15⁻¹ : ℝ) : EReal)
  | _ => none
-- ==== ReferenceIdeal.lean ====
abbrev S_ : Shape := ⟨0, ![]⟩
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S10000x64 : Shape := ⟨2, ![10000, 64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S_, .i32⟩
  | .hbm, ⟨1, _⟩ => ⟨S10000x128, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x10000, .f32⟩
  | .hbm, ⟨17, _⟩ => ⟨S10000x10000, .f32⟩
  | .hbm, ⟨18, _⟩ => ⟨S10000x10000, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10000x10000, .f32⟩
  | .hbm, ⟨23, _⟩ => ⟨S10000x10000, .f32⟩
  | .hbm, ⟨24, _⟩ => ⟨S_, .f32⟩
  | .hbm, ⟨25, _⟩ => ⟨S10000x10000, .f32⟩
  | .hbm, ⟨26, _⟩ => ⟨S10000x10000, .f32⟩
  | .hbm, ⟨27, _⟩ => ⟨S_, .f32⟩
  | .hbm, ⟨28, _⟩ => ⟨S10000x10000, .f32⟩
  | .hbm, ⟨29, _⟩ => ⟨S10000x10000, .f32⟩
  | .hbm, ⟨30, _⟩ => ⟨S10000x10000, .f32⟩
  | .hbm, ⟨31, _⟩ => ⟨S10000x64, .f32⟩
  | .hbm, ⟨32, _⟩ => ⟨S10000x64, .f32⟩
  | .hbm, ⟨33, _⟩ => ⟨S1x64, .f32⟩
  | .hbm, ⟨34, _⟩ => ⟨S10000x64, .f32⟩
  | .hbm, ⟨35, _⟩ => ⟨S10000x64, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_cst_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Proof.Bodies.lean ====
/- What one call of each of the three kernel bodies does to the buffers it is handed, at any float instance:
   each body takes whole staging buffers, leaves its inputs as they were and its outputs at a closed expression
   in the inputs. The two cases of the first body (first grid point, later grid points) are stated apart. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- "This is the first grid point", as the first body computes it from the grid coordinate. -/
abbrev atFirst (i : grid0.Coords) : Prop :=
  (Scalar.cmpi .ne (Scalar.extui (Scalar.cmpi .eq (BitVec.ofNat 32 (i 0).val) 0#32)) 0#32) = 1#1

/-- The first body's test holds exactly at grid point 0. -/
theorem atFirst_iff (t : Fin cfg0.N) : atFirst (grid0.coords t) ↔ t.val = 0 := by
  have ht : t.val < 25 := Nat.lt_of_lt_of_eq t.isLt N_0
  have e0 : (grid0.coords t 0).val = t.val / 1 % 25 := Pipeline.Grid.coords_val t 0 (by decide) rfl
  have e1 : t.val = 0 ↔ t.val % 25 = 0 := by omega
  rw [e1]
  simp only [atFirst, e0]
  word_cmp

set_option maxHeartbeats 1000000 in
/-- The first body at the first grid point: it fills the scratch with the product of features and weights,
    whatever was there, and leaves the codes of the adjacency block and the block's second-layer support. -/
theorem first_body_start (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S400x10000 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S400x64 .bf16) (harg6 : arg6.IsWhole)
    (arg7 : Memref sig .tc .vmem S400x10000 .i4) (harg7 : arg7.IsWhole) (arg8 : Memref sig .tc .vmem S10000x128 .bf16) (harg8 : arg8.IsWhole)
    (hfirst : atFirst i)
    (x : Vec F S10000x128 .f32) (w1 : Vec F S128x128 .f32) (a : Vec F S400x10000 .f32) (b : Vec F S1x128 .f32) (w2 : Vec F S128x64 .f32)
    (E : Set ℕ) (K : PUnit → sProp 𝕄) :
    iprop(owns (c : Thread nD τ) arg1 fullShare x ∗ owns (c : Thread nD τ) arg2 fullShare w1 ∗ owns (c : Thread nD τ) arg3 fullShare a
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x ∗ owns (c : Thread nD τ) arg2 fullShare w1 ∗ owns (c : Thread nD τ) arg3 fullShare a
            ∗ owns (c : Thread nD τ) arg4 fullShare b ∗ owns (c : Thread nD τ) arg5 fullShare w2
            ∗ owns (c : Thread nD τ) arg6 fullShare (k0_pay3 a (k0_pay1 x w1) b w2)
            ∗ owns (c : Thread nD τ) arg7 fullShare (k0_pay2 a)
            ∗ owns (c : Thread nD τ) arg8 fullShare (k0_pay1 x w1)) -∗ K ⟨⟩))
      ⊢ wp frame (wpE (defs₀ (F := F)) Variants.none c none) E
          (cc0__gc1_kernel i arg1 harg1 arg2 harg2 arg3 harg3 arg4 harg4 arg5 harg5 arg6 harg6 arg7 harg7 arg8 harg8) K := by
  simp only [cc0__gc1_kernel_eq_skeleton]; unfold cc0__gc1_kernel_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, Hk⟩
  obtain rfl := harg1.eq_unread h1; obtain rfl := harg2.eq_unread h2; obtain rfl := harg3.eq_unread h3
  obtain rfl := harg4.eq_unread h4; obtain rfl := harg5.eq_unread h5
  sl_exec (disch := first | sl_exact hfirst)
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr; swap
    · iexact H6
    · ipureintro
      refine (View.read_writes_full _ _ _ _ _).trans ?_
      rw [View.readAt_full, View.readAt_full, View.readAt_full, harg3.read_unread, harg4.read_unread, harg5.read_unread]
      refine congrArg (fun s => k0_pay3 a s b w2) ?_
      unfold first_body_start.sl.v14 first_body_start.sl.H8_1
      refine (View.readCov_full _ _ _ _ _).trans ?_
      rw [View.readAt_full, View.readAt_full, harg1.read_unread, harg2.read_unread]
  isplitl [H7]
  · iexists _; isplitr; swap
    · iexact H7
    · ipureintro
      refine (View.read_writes_full _ _ _ _ _).trans ?_
      rw [View.readAt_full, harg3.read_unread]
  iexists _; isplitr; swap
  · iexact H8
  · ipureintro
    unfold first_body_start.sl.H8_1
    refine (View.read_writes_full _ _ _ _ _).trans ?_
    rw [View.readAt_full, View.readAt_full, harg1.read_unread, harg2.read_unread]

set_option maxHeartbeats 1000000 in
/-- The first body at a later grid point: it reads the scratch as it finds it and leaves it so; its outputs are the codes
    of the adjacency block and the block's second-layer support over that scratch. -/
theorem first_body_later (c : Dev nD) (i : grid0.Coords)
    (arg1 : Memref sig .tc .vmem S10000x128 .f32) (harg1 : arg1.IsWhole) (arg2 : Memref sig .tc .vmem S128x128 .f32) (harg2 : arg2.IsWhole)
    (arg3 : Memref sig .tc .vmem S400x10000 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S400x64 .bf16) (harg6 : arg6.IsWhole)
    (arg7 : Memref sig .tc .vmem S400x10000 .i4) (harg7 : arg7.IsWhole) (arg8 : Memref sig .tc .vmem S10000x128 .bf16) (harg8 : arg8.IsWhole)
    (hlater : ¬ atFirst i)
    (x : Vec F S10000x128 .f32) (w1 : Vec F S128x128 .f32) (a : Vec F S400x10000 .f32) (b : Vec F S1x128 .f32) (w2 : Vec F S128x64 .f32)
    (s1 : Vec F S10000x128 .bf16)     (E : Set ℕ) (K : PUnit → sProp 𝕄) :
    iprop(owns (c : Thread nD τ) arg1 fullShare x ∗ owns (c : Thread nD τ) arg2 fullShare w1 ∗ owns (c : Thread nD τ) arg3 fullShare a
        ∗ owns (c : Thread nD τ) arg4 fullShare b ∗ owns (c : Thread nD τ) arg5 fullShare w2
        ∗ (∃ d, owns (c : Thread nD τ) arg6 fullShare d) ∗ (∃ d, owns (c : Thread nD τ) arg7 fullShare d) ∗ owns (c : Thread nD τ) arg8 fullShare s1
        ∗ (iprop(owns (c : Thread nD τ) arg1 fullShare x ∗ owns (c : Thread nD τ) arg2 fullShare w1 ∗ owns (c : Thread nD τ) arg3 fullShare a
            ∗ owns (c : Thread nD τ) arg4 fullShare b ∗ owns (c : Thread nD τ) arg5 fullShare w2
            ∗ owns (c : Thread nD τ) arg6 fullShare (k0_pay3 a s1 b w2)
            ∗ owns (c : Thread nD τ) arg7 fullShare (k0_pay2 a)
            ∗ owns (c : Thread nD τ) arg8 fullShare s1) -∗ K ⟨⟩))
      ⊢ wp frame (wpE (defs₀ (F := F)) Variants.none c none) E
          (cc0__gc1_kernel i arg1 harg1 arg2 harg2 arg3 harg3 arg4 harg4 arg5 harg5 arg6 harg6 arg7 harg7 arg8 harg8) K := by
  simp only [cc0__gc1_kernel_eq_skeleton]; unfold cc0__gc1_kernel_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%f8, %h8, H8⟩, Hk⟩
  obtain rfl := harg1.eq_unread h1; obtain rfl := harg2.eq_unread h2; obtain rfl := harg3.eq_unread h3
  obtain rfl := harg4.eq_unread h4; obtain rfl := harg5.eq_unread h5; obtain rfl := harg8.eq_unread h8
  sl_exec (disch := first | sl_exact hlater)
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  isplitl [H4]
  · iexists _; isplitr
    · ipureintro; exact harg4.read_unread _
    · iexact H4
  isplitl [H5]
  · iexists _; isplitr
    · ipureintro; exact harg5.read_unread _
    · iexact H5
  isplitl [H6]
  · iexists _; isplitr; swap
    · iexact H6
    · ipureintro
      refine (View.read_writes_full _ _ _ _ _).trans ?_
      rw [View.readAt_full, View.readAt_full, View.readAt_full, View.readAt_full, harg3.read_unread, harg4.read_unread, harg5.read_unread,
        harg8.read_unread]
  isplitl [H7]
  · iexists _; isplitr; swap
    · iexact H7
    · ipureintro
      refine (View.read_writes_full _ _ _ _ _).trans ?_
      rw [View.readAt_full, harg3.read_unread]
  iexists _; isplitr; swap
  · iexact H8
  · ipureintro; exact harg8.read_unread _

set_option maxHeartbeats 1000000 in
/-- The second body: the codes of a block of rows times the support, scaled. -/
theorem second_body (c : Dev nD) (i : grid1.Coords)
    (arg1 : Memref sig .tc .vmem S1000x10000 .i4) (harg1 : arg1.IsWhole) (arg2 : Memref sig .tc .vmem S10000x64 .bf16) (harg2 : arg2.IsWhole)
    (arg3 : Memref sig .tc .vmem S1000x64 .bf16) (harg3 : arg3.IsWhole) (arg4 : Memref sig .tc .vmem S1000x10000 .bf16) (harg4 : arg4.IsWhole)
    (q : Vec F S1000x10000 .i4) (s : Vec F S10000x64 .bf16) (E : Set ℕ) (K : PUnit → sProp 𝕄) :
    iprop(owns (c : Thread nD τ) arg1 fullShare q ∗ owns (c : Thread nD τ) arg2 fullShare s
        ∗ (∃ d, owns (c : Thread nD τ) arg3 fullShare d) ∗ (∃ d, owns (c : Thread nD τ) arg4 fullShare d)
        ∗ (iprop(owns (c : Thread nD τ) arg1 fullShare q ∗ owns (c : Thread nD τ) arg2 fullShare s
            ∗ owns (c : Thread nD τ) arg3 fullShare (k1_pay2 (k1_pay1 q) s)
            ∗ (∃ d, owns (c : Thread nD τ) arg4 fullShare d)) -∗ K ⟨⟩))
      ⊢ wp frame (wpE (defs₀ (F := F)) Variants.none c none) E (cc1__spmm_kernel i arg1 harg1 arg2 harg2 arg3 harg3 arg4 harg4) K := by
  simp only [cc1__spmm_kernel_eq_skeleton]; unfold cc1__spmm_kernel_skel
  unfold owns
  iintro ⟨⟨%f1, %h1, H1⟩, ⟨%f2, %h2, H2⟩, ⟨%d3, %f3, -, H3⟩, ⟨%d4, %f4, -, H4⟩, Hk⟩
  obtain rfl := harg1.eq_unread h1; obtain rfl := harg2.eq_unread h2
  sl_exec
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr; swap
    · iexact H3
    · ipureintro
      refine (View.read_writes_full _ _ _ _ _).trans ?_
      rw [View.readAt_full, harg2.read_unread]
      refine congrArg (fun v => k1_pay2 v s) ?_
      unfold second_body.sl.v6 second_body.sl.H4_1
      refine (View.readCov_full _ _ _ _ _).trans ?_
      rw [View.readAt_full, harg1.read_unread]
  iexists _; iexists _; isplitr; swap
  · iexact H4
  · ipureintro; rfl

set_option maxHeartbeats 1000000 in
/-- The third body: the codes of a block of rows times what the second kernel left, scaled, plus the bias row. -/
theorem third_body (c : Dev nD) (i : grid2.Coords)
    (arg1 : Memref sig .tc .vmem S1000x10000 .i4) (harg1 : arg1.IsWhole) (arg2 : Memref sig .tc .vmem S10000x64 .bf16) (harg2 : arg2.IsWhole)
    (arg3 : Memref sig .tc .vmem S1x64 .f32) (harg3 : arg3.IsWhole) (arg4 : Memref sig .tc .vmem S1000x64 .f32) (harg4 : arg4.IsWhole) (arg5 : Memref sig .tc .vmem S1000x10000 .bf16) (harg5 : arg5.IsWhole)
    (q : Vec F S1000x10000 .i4) (s : Vec F S10000x64 .bf16) (b : Vec F S1x64 .f32) (E : Set ℕ) (K : PUnit → sProp 𝕄) :
    iprop(owns (c : Thread nD τ) arg1 fullShare q ∗ owns (c : Thread nD τ) arg2 fullShare s ∗ owns (c : Thread nD τ) arg3 fullShare b
        ∗ (∃ d, owns (c : Thread nD τ) arg4 fullShare d) ∗ (∃ d, owns (c : Thread nD τ) arg5 fullShare d)
        ∗ (iprop(owns (c : Thread nD τ) arg1 fullShare q ∗ owns (c : Thread nD τ) arg2 fullShare s ∗ owns (c : Thread nD τ) arg3 fullShare b
            ∗ owns (c : Thread nD τ) arg4 fullShare (k2_pay2 (k2_pay1 q) s b)
            ∗ (∃ d, owns (c : Thread nD τ) arg5 fullShare d)) -∗ K ⟨⟩))
      ⊢ wp frame (wpE (defs₀ (F := F)) Variants.none c none) E (cc2__spmm_bias_kernel i arg1 harg1 arg2 harg2 arg3 harg3 arg4 harg4 arg5 harg5) K := by
  simp only [cc2__spmm_bias_kernel_eq_skeleton]; unfold cc2__spmm_bias_kernel_skel
  unfold owns
  iintro ⟨⟨%f1, %h1, H1⟩, ⟨%f2, %h2, H2⟩, ⟨%f3, %h3, H3⟩, ⟨%d4, %f4, -, H4⟩, ⟨%d5, %f5, -, H5⟩, Hk⟩
  obtain rfl := harg1.eq_unread h1; obtain rfl := harg2.eq_unread h2; obtain rfl := harg3.eq_unread h3
  sl_exec
  sl_step
  iapply Hk
  isplitl [H1]
  · iexists _; isplitr
    · ipureintro; exact harg1.read_unread _
    · iexact H1
  isplitl [H2]
  · iexists _; isplitr
    · ipureintro; exact harg2.read_unread _
    · iexact H2
  isplitl [H3]
  · iexists _; isplitr
    · ipureintro; exact harg3.read_unread _
    · iexact H3
  isplitl [H4]
  · iexists _; isplitr; swap
    · iexact H4
    · ipureintro
      refine (View.read_writes_full _ _ _ _ _).trans ?_
      rw [View.readAt_full, View.readAt_full, harg2.read_unread, harg3.read_unread]
      refine congrArg (fun v => k2_pay2 v s b) ?_
      unfold third_body.sl.v6 third_body.sl.H5_1
      refine (View.readCov_full _ _ _ _ _).trans ?_
      rw [View.readAt_full, harg1.read_unread]
  iexists _; iexists _; isplitr; swap
  · iexact H5
  · ipureintro; rfl

end Cert.Proof

end
-- ==== Proof.Data.lean ====
/- The proof data of the three pipelines, each at the contents `V` its region is entered with: what every staging
   buffer holds after every grid point, what the kernel's scratch holds between points, and that each body keeps this. -/
module

public import proofs.«01_k».proof.Proof.Bodies
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The first pipeline -/

/-- Window `w`'s block at point `t` of the first pipeline, read off its array as the region finds it. -/
def in0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev buf0_0 (t : Fin cfg0.N) : Memref sig .tc .vmem S10000x128 .f32 := win0_0.stage (cfg0.slots t 0)
abbrev whole0_0 (t : Fin cfg0.N) : (buf0_0 t).IsWhole := hstage0_0 ((cfg0.slots t 0).cast nbuf0_0)
abbrev buf0_1 (t : Fin cfg0.N) : Memref sig .tc .vmem S128x128 .f32 := win0_1.stage (cfg0.slots t 1)
abbrev whole0_1 (t : Fin cfg0.N) : (buf0_1 t).IsWhole := hstage0_1 ((cfg0.slots t 1).cast nbuf0_1)
abbrev buf0_2 (t : Fin cfg0.N) : Memref sig .tc .vmem S400x10000 .f32 := win0_2.stage (cfg0.slots t 2)
abbrev whole0_2 (t : Fin cfg0.N) : (buf0_2 t).IsWhole := hstage0_2 ((cfg0.slots t 2).cast nbuf0_2)
abbrev buf0_3 (t : Fin cfg0.N) : Memref sig .tc .vmem S1x128 .f32 := win0_3.stage (cfg0.slots t 3)
abbrev whole0_3 (t : Fin cfg0.N) : (buf0_3 t).IsWhole := hstage0_3 ((cfg0.slots t 3).cast nbuf0_3)
abbrev buf0_4 (t : Fin cfg0.N) : Memref sig .tc .vmem S128x64 .f32 := win0_4.stage (cfg0.slots t 4)
abbrev whole0_4 (t : Fin cfg0.N) : (buf0_4 t).IsWhole := hstage0_4 ((cfg0.slots t 4).cast nbuf0_4)
abbrev buf0_5 (t : Fin cfg0.N) : Memref sig .tc .vmem S400x64 .bf16 := win0_5.stage (cfg0.slots t 5)
abbrev whole0_5 (t : Fin cfg0.N) : (buf0_5 t).IsWhole := hstage0_5 ((cfg0.slots t 5).cast nbuf0_5)
abbrev buf0_6 (t : Fin cfg0.N) : Memref sig .tc .vmem S400x10000 .i4 := win0_6.stage (cfg0.slots t 6)
abbrev whole0_6 (t : Fin cfg0.N) : (buf0_6 t).IsWhole := hstage0_6 ((cfg0.slots t 6).cast nbuf0_6)
/-- The first kernel's scratch. -/
abbrev scr0 : Memref sig .tc .vmem S10000x128 .bf16 := Memref.whole cc0_scratch0

/-- The scoped buffers the first pipeline neither stages through nor passes as scratch, each at some contents. -/
def others0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The scoped buffers not staged through: the scratch at some contents, and the others. -/
theorem scoped0 (c : Dev nD) :
    (Pipeline.scopedRest (Ix := Unit) (Name := ℕ) (U := UR sig nD τ) (Lvl := ℕ) (Val := Elt F) spec0 c : sProp 𝕄)
      = iprop((∃ d, owns (c : Thread nD τ) scr0 fullShare d) ∗ others0 c) := by
  unfold Pipeline.scopedRest others0
  rw [bigSep_erase (i := cc0_scratch0) (by decide)]
  simp only [scr0, owns_whole]; try rfl

/-- The first grid point. -/
abbrev origin0 : Fin cfg0.N := ⟨0, by decide⟩

/-- What the scratch holds before point `n`: anything before the first point, afterwards the product of features and
    weights that the first point computed from its blocks. -/
def scrAt0 (c : Dev nD) (n : ℕ) : sProp 𝕄 :=
  if n = 0 then iprop(∃ d, owns (c : Thread nD τ) scr0 fullShare d)
  else owns (c : Thread nD τ) scr0 fullShare (k0_pay1 (in0 V c 0 origin0) (in0 V c 1 origin0))

theorem scrAt0_zero (c : Dev nD) : scrAt0 V c 0 = iprop(∃ d, owns (c : Thread nD τ) scr0 fullShare d) := if_pos rfl
theorem scrAt0_pos (c : Dev nD) {n : ℕ} (h : n ≠ 0) :
    scrAt0 V c n = owns (c : Thread nD τ) scr0 fullShare (k0_pay1 (in0 V c 0 origin0) (in0 V c 1 origin0)) := if_neg h

/-- The first pipeline's proof data: arrays as found, inputs' buffers left at their blocks, outputs' at the body's results. -/
def dat0 (c : Dev nD) : Dat τ (Elt F) Unit ℕ (UR sig nD τ) ℕ cfg0 c where
  A w := V c (Pipeline.arrRef spec0 w)
  after w t := match w with
    | ⟨0, _⟩ => in0 V c 0 t
    | ⟨1, _⟩ => in0 V c 1 t
    | ⟨2, _⟩ => in0 V c 2 t
    | ⟨3, _⟩ => in0 V c 3 t
    | ⟨4, _⟩ => in0 V c 4 t
    | ⟨5, _⟩ => k0_pay3 (in0 V c 2 t) (k0_pay1 (in0 V c 0 origin0) (in0 V c 1 origin0)) (in0 V c 3 t) (in0 V c 4 t)
    | ⟨6, _⟩ => k0_pay2 (in0 V c 2 t)
  Φ t := iprop((scrAt0 V c t.val ∗ others0 c) ∗ ∃ r, prngReg c r)
  q _ := fullShare
  owed _ := 0

theorem dat0_A (c : Dev nD) (w : Fin cfg0.W) : (dat0 V c).A w = V c (Pipeline.arrRef spec0 w) := by dsimp only [dat0]
theorem left0_0 (c : Dev nD) (t : Fin cfg0.N) : (dat0 V c).after 0 t = in0 V c 0 t := by dsimp only [dat0]
theorem left0_1 (c : Dev nD) (t : Fin cfg0.N) : (dat0 V c).after 1 t = in0 V c 1 t := by dsimp only [dat0]
theorem left0_2 (c : Dev nD) (t : Fin cfg0.N) : (dat0 V c).after 2 t = in0 V c 2 t := by dsimp only [dat0]
theorem left0_3 (c : Dev nD) (t : Fin cfg0.N) : (dat0 V c).after 3 t = in0 V c 3 t := by dsimp only [dat0]
theorem left0_4 (c : Dev nD) (t : Fin cfg0.N) : (dat0 V c).after 4 t = in0 V c 4 t := by dsimp only [dat0]
theorem left0_5 (c : Dev nD) (t : Fin cfg0.N) : (dat0 V c).after 5 t = k0_pay3 (in0 V c 2 t) (k0_pay1 (in0 V c 0 origin0) (in0 V c 1 origin0)) (in0 V c 3 t) (in0 V c 4 t) := by dsimp only [dat0]
theorem left0_6 (c : Dev nD) (t : Fin cfg0.N) : (dat0 V c).after 6 t = k0_pay2 (in0 V c 2 t) := by dsimp only [dat0]

/-- Input 0's buffer holds its block when the body is called. -/
theorem found0_0 (c : Dev nD) (t : Fin cfg0.N) (d) : (dat0 V c).before 0 t d = in0 V c 0 t :=
  ((dat0 V c).before_in_eq_fetched 0 rfl (fun _ => rfl) (fun _ _ _ => rfl)
      (fun t => by rw [left0_0]; unfold Dat.blockOf in0; rw [dat0_A]; try rfl) t d).trans
    (by unfold Dat.fetched Dat.blockOf in0; rw [dat0_A]; try rfl)
/-- Input 1's buffer holds its block when the body is called. -/
theorem found0_1 (c : Dev nD) (t : Fin cfg0.N) (d) : (dat0 V c).before 1 t d = in0 V c 1 t :=
  ((dat0 V c).before_in_eq_fetched 1 rfl (fun _ => rfl) (fun _ _ _ => rfl)
      (fun t => by rw [left0_1]; unfold Dat.blockOf in0; rw [dat0_A]; try rfl) t d).trans
    (by unfold Dat.fetched Dat.blockOf in0; rw [dat0_A]; try rfl)
/-- Input 2's buffer holds its block when the body is called. -/
theorem found0_2 (c : Dev nD) (t : Fin cfg0.N) (d) : (dat0 V c).before 2 t d = in0 V c 2 t :=
  ((dat0 V c).before_in_eq_fetched 2 rfl (fun _ => rfl) (fun _ _ _ => rfl)
      (fun t => by rw [left0_2]; unfold Dat.blockOf in0; rw [dat0_A]; try rfl) t d).trans
    (by unfold Dat.fetched Dat.blockOf in0; rw [dat0_A]; try rfl)
/-- Input 3's buffer holds its block when the body is called. -/
theorem found0_3 (c : Dev nD) (t : Fin cfg0.N) (d) : (dat0 V c).before 3 t d = in0 V c 3 t :=
  ((dat0 V c).before_in_eq_fetched 3 rfl (fun _ => rfl) (fun _ _ _ => rfl)
      (fun t => by rw [left0_3]; unfold Dat.blockOf in0; rw [dat0_A]; try rfl) t d).trans
    (by unfold Dat.fetched Dat.blockOf in0; rw [dat0_A]; try rfl)
/-- Input 4's buffer holds its block when the body is called. -/
theorem found0_4 (c : Dev nD) (t : Fin cfg0.N) (d) : (dat0 V c).before 4 t d = in0 V c 4 t :=
  ((dat0 V c).before_in_eq_fetched 4 rfl (fun _ => rfl) (fun _ _ _ => rfl)
      (fun t => by rw [left0_4]; unfold Dat.blockOf in0; rw [dat0_A]; try rfl) t d).trans
    (by unfold Dat.fetched Dat.blockOf in0; rw [dat0_A]; try rfl)

/-- What the first body is called with, -/
def pre0 (c : Dev nD) (t : Fin cfg0.N) : sProp 𝕄 :=
  iprop((dat0 V c).Φ t.castSucc ∗ (dat0 V c).owesAt () t.castSucc
    ∗ (∃ d, owns (c : Thread nD τ) (buf0_0 t) fullShare ((dat0 V c).before 0 t d))
    ∗ (∃ d, owns (c : Thread nD τ) (buf0_1 t) fullShare ((dat0 V c).before 1 t d))
    ∗ (∃ d, owns (c : Thread nD τ) (buf0_2 t) fullShare ((dat0 V c).before 2 t d))
    ∗ (∃ d, owns (c : Thread nD τ) (buf0_3 t) fullShare ((dat0 V c).before 3 t d))
    ∗ (∃ d, owns (c : Thread nD τ) (buf0_4 t) fullShare ((dat0 V c).before 4 t d))
    ∗ (∃ d, owns (c : Thread nD τ) (buf0_5 t) fullShare ((dat0 V c).before 5 t d))
    ∗ (∃ d, owns (c : Thread nD τ) (buf0_6 t) fullShare ((dat0 V c).before 6 t d)))

/-- and what it leaves. -/
def post0 (c : Dev nD) (t : Fin cfg0.N) : sProp 𝕄 :=
  iprop((dat0 V c).Φ t.succ ∗ (dat0 V c).owesAt () t.succ
    ∗ owns (c : Thread nD τ) (buf0_0 t) fullShare ((dat0 V c).after 0 t)
    ∗ owns (c : Thread nD τ) (buf0_1 t) fullShare ((dat0 V c).after 1 t)
    ∗ owns (c : Thread nD τ) (buf0_2 t) fullShare ((dat0 V c).after 2 t)
    ∗ owns (c : Thread nD τ) (buf0_3 t) fullShare ((dat0 V c).after 3 t)
    ∗ owns (c : Thread nD τ) (buf0_4 t) fullShare ((dat0 V c).after 4 t)
    ∗ owns (c : Thread nD τ) (buf0_5 t) fullShare ((dat0 V c).after 5 t)
    ∗ owns (c : Thread nD τ) (buf0_6 t) fullShare ((dat0 V c).after 6 t))

set_option maxHeartbeats 1000000 in
/-- The first body at any point: at the first point it fills the scratch, at later points it finds it filled. -/
theorem body0 (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2, found0_3, found0_4]
  rw [show (dat0 V c).owesAt () t.succ = (dat0 V c).owesAt () t.castSucc from rfl, left0_0, left0_1, left0_2, left0_3, left0_4, left0_5, left0_6,
    show (dat0 V c).Φ t.succ = iprop((scrAt0 V c (t.val + 1) ∗ others0 c) ∗ ∃ r, prngReg c r) from rfl,
    show (dat0 V c).Φ t.castSucc = iprop((scrAt0 V c t.val ∗ others0 c) ∗ ∃ r, prngReg c r) from rfl,
    scrAt0_pos V c (Nat.succ_ne_zero t.val)]
  by_cases h : t.val = 0
  · obtain rfl : t = origin0 := Fin.ext h
    rw [show scrAt0 V c origin0.val = _ from scrAt0_zero V c]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (first_body_start c (grid0.coords origin0) _ _ _ _ _ _ _ _ _ _ _ _ _ _ _ _ ((atFirst_iff origin0).mpr h) (in0 V c 0 origin0) (in0 V c 1 origin0) (in0 V c 2 origin0) (in0 V c 3 origin0) (in0 V c 4 origin0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [scrAt0_pos V c h]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (first_body_later c (grid0.coords t) _ _ _ _ _ _ _ _ _ _ _ _ _ _ _ _ (fun h' => h ((atFirst_iff t).mp h')) (in0 V c 0 t) (in0 V c 1 t) (in0 V c 2 t) (in0 V c 3 t) (in0 V c 4 t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body's obligation to the first pipeline, at every grid point. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (body0 V c t) rfl .rfl fun _ => .rfl

/-! ## The second pipeline -/

/-- Window `w`'s block at point `t` of the second pipeline, read off its array as the region finds it. -/
def in1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev buf1_0 (t : Fin cfg1.N) : Memref sig .tc .vmem S1000x10000 .i4 := win1_0.stage (cfg1.slots t 0)
abbrev whole1_0 (t : Fin cfg1.N) : (buf1_0 t).IsWhole := hstage1_0 ((cfg1.slots t 0).cast nbuf1_0)
abbrev buf1_1 (t : Fin cfg1.N) : Memref sig .tc .vmem S10000x64 .bf16 := win1_1.stage (cfg1.slots t 1)
abbrev whole1_1 (t : Fin cfg1.N) : (buf1_1 t).IsWhole := hstage1_1 ((cfg1.slots t 1).cast nbuf1_1)
abbrev buf1_2 (t : Fin cfg1.N) : Memref sig .tc .vmem S1000x64 .bf16 := win1_2.stage (cfg1.slots t 2)
abbrev whole1_2 (t : Fin cfg1.N) : (buf1_2 t).IsWhole := hstage1_2 ((cfg1.slots t 2).cast nbuf1_2)
/-- The second kernel's scratch. -/
abbrev scr1 : Memref sig .tc .vmem S1000x10000 .bf16 := Memref.whole cc1_scratch0

/-- The scoped buffers the second pipeline neither stages through nor passes as scratch, each at some contents. -/
def others1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The scoped buffers not staged through: the scratch at some contents, and the others. -/
theorem scoped1 (c : Dev nD) :
    (Pipeline.scopedRest (Ix := Unit) (Name := ℕ) (U := UR sig nD τ) (Lvl := ℕ) (Val := Elt F) spec1 c : sProp 𝕄)
      = iprop((∃ d, owns (c : Thread nD τ) scr1 fullShare d) ∗ others1 c) := by
  unfold Pipeline.scopedRest others1
  rw [bigSep_erase (i := cc1_scratch0) (by decide)]
  simp only [scr1, owns_whole]; try rfl

/-- The second pipeline's proof data: arrays as found, inputs' buffers left at their blocks, outputs' at the body's results. -/
def dat1 (c : Dev nD) : Dat τ (Elt F) Unit ℕ (UR sig nD τ) ℕ cfg1 c where
  A w := V c (Pipeline.arrRef spec1 w)
  after w t := match w with
    | ⟨0, _⟩ => in1 V c 0 t
    | ⟨1, _⟩ => in1 V c 1 t
    | ⟨2, _⟩ => k1_pay2 (k1_pay1 (in1 V c 0 t)) (in1 V c 1 t)
  Φ _ := iprop(((∃ d, owns (c : Thread nD τ) scr1 fullShare d) ∗ others1 c) ∗ ∃ r, prngReg c r)
  q _ := fullShare
  owed _ := 0

theorem dat1_A (c : Dev nD) (w : Fin cfg1.W) : (dat1 V c).A w = V c (Pipeline.arrRef spec1 w) := by dsimp only [dat1]
theorem left1_0 (c : Dev nD) (t : Fin cfg1.N) : (dat1 V c).after 0 t = in1 V c 0 t := by dsimp only [dat1]
theorem left1_1 (c : Dev nD) (t : Fin cfg1.N) : (dat1 V c).after 1 t = in1 V c 1 t := by dsimp only [dat1]
theorem left1_2 (c : Dev nD) (t : Fin cfg1.N) : (dat1 V c).after 2 t = k1_pay2 (k1_pay1 (in1 V c 0 t)) (in1 V c 1 t) := by dsimp only [dat1]

/-- Input 0's buffer holds its block when the body is called. -/
theorem found1_0 (c : Dev nD) (t : Fin cfg1.N) (d) : (dat1 V c).before 0 t d = in1 V c 0 t :=
  ((dat1 V c).before_in_eq_fetched 0 rfl (fun _ => rfl) (fun _ _ _ => rfl)
      (fun t => by rw [left1_0]; unfold Dat.blockOf in1; rw [dat1_A]; try rfl) t d).trans
    (by unfold Dat.fetched Dat.blockOf in1; rw [dat1_A]; try rfl)
/-- Input 1's buffer holds its block when the body is called. -/
theorem found1_1 (c : Dev nD) (t : Fin cfg1.N) (d) : (dat1 V c).before 1 t d = in1 V c 1 t :=
  ((dat1 V c).before_in_eq_fetched 1 rfl (fun _ => rfl) (fun _ _ _ => rfl)
      (fun t => by rw [left1_1]; unfold Dat.blockOf in1; rw [dat1_A]; try rfl) t d).trans
    (by unfold Dat.fetched Dat.blockOf in1; rw [dat1_A]; try rfl)

/-- What the second body is called with, -/
def pre1 (c : Dev nD) (t : Fin cfg1.N) : sProp 𝕄 :=
  iprop((dat1 V c).Φ t.castSucc ∗ (dat1 V c).owesAt () t.castSucc
    ∗ (∃ d, owns (c : Thread nD τ) (buf1_0 t) fullShare ((dat1 V c).before 0 t d))
    ∗ (∃ d, owns (c : Thread nD τ) (buf1_1 t) fullShare ((dat1 V c).before 1 t d))
    ∗ (∃ d, owns (c : Thread nD τ) (buf1_2 t) fullShare ((dat1 V c).before 2 t d)))

/-- and what it leaves. -/
def post1 (c : Dev nD) (t : Fin cfg1.N) : sProp 𝕄 :=
  iprop((dat1 V c).Φ t.succ ∗ (dat1 V c).owesAt () t.succ
    ∗ owns (c : Thread nD τ) (buf1_0 t) fullShare ((dat1 V c).after 0 t)
    ∗ owns (c : Thread nD τ) (buf1_1 t) fullShare ((dat1 V c).after 1 t)
    ∗ owns (c : Thread nD τ) (buf1_2 t) fullShare ((dat1 V c).after 2 t))

set_option maxHeartbeats 1000000 in
/-- The second body at any point: it takes its scratch at anything and leaves it at something. -/
theorem body1 (c : Dev nD) (t : Fin cfg1.N) :
    pre1 V c t ⊢ wp frame (wpE (defs₀ (F := F)) Variants.none c none) Set.univ (bodyAt1 t) (fun _ => post1 V c t) := by
  unfold pre1 post1 bodyAt1
  simp only [found1_0, found1_1]
  rw [show (dat1 V c).owesAt () t.succ = (dat1 V c).owesAt () t.castSucc from rfl, left1_0, left1_1, left1_2,
    show (dat1 V c).Φ t.succ = (dat1 V c).Φ t.castSucc from rfl,
    show (dat1 V c).Φ t.castSucc = iprop(((∃ d, owns (c : Thread nD τ) scr1 fullShare d) ∗ others1 c) ∗ ∃ r, prngReg c r) from rfl]
  iintro ⟨⟨⟨HS, HR⟩, Hg⟩, Ho, ⟨%d0, H0⟩, ⟨%d1, H1⟩, ⟨%d2, H2⟩⟩
  iapply (second_body c (grid1.coords t) _ _ _ _ _ _ _ _ (in1 V c 0 t) (in1 V c 1 t) Set.univ _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The body's obligation to the second pipeline, at every grid point. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (body1 V c t) rfl .rfl fun _ => .rfl

/-! ## The third pipeline -/

/-- Window `w`'s block at point `t` of the third pipeline, read off its array as the region finds it. -/
def in2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev buf2_0 (t : Fin cfg2.N) : Memref sig .tc .vmem S1000x10000 .i4 := win2_0.stage (cfg2.slots t 0)
abbrev whole2_0 (t : Fin cfg2.N) : (buf2_0 t).IsWhole := hstage2_0 ((cfg2.slots t 0).cast nbuf2_0)
abbrev buf2_1 (t : Fin cfg2.N) : Memref sig .tc .vmem S10000x64 .bf16 := win2_1.stage (cfg2.slots t 1)
abbrev whole2_1 (t : Fin cfg2.N) : (buf2_1 t).IsWhole := hstage2_1 ((cfg2.slots t 1).cast nbuf2_1)
abbrev buf2_2 (t : Fin cfg2.N) : Memref sig .tc .vmem S1x64 .f32 := win2_2.stage (cfg2.slots t 2)
abbrev whole2_2 (t : Fin cfg2.N) : (buf2_2 t).IsWhole := hstage2_2 ((cfg2.slots t 2).cast nbuf2_2)
abbrev buf2_3 (t : Fin cfg2.N) : Memref sig .tc .vmem S1000x64 .f32 := win2_3.stage (cfg2.slots t 3)
abbrev whole2_3 (t : Fin cfg2.N) : (buf2_3 t).IsWhole := hstage2_3 ((cfg2.slots t 3).cast nbuf2_3)
/-- The third kernel's scratch. -/
abbrev scr2 : Memref sig .tc .vmem S1000x10000 .bf16 := Memref.whole cc2_scratch0

/-- The scoped buffers the third pipeline neither stages through nor passes as scratch, each at some contents. -/
def others2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The scoped buffers not staged through: the scratch at some contents, and the others. -/
theorem scoped2 (c : Dev nD) :
    (Pipeline.scopedRest (Ix := Unit) (Name := ℕ) (U := UR sig nD τ) (Lvl := ℕ) (Val := Elt F) spec2 c : sProp 𝕄)
      = iprop((∃ d, owns (c : Thread nD τ) scr2 fullShare d) ∗ others2 c) := by
  unfold Pipeline.scopedRest others2
  rw [bigSep_erase (i := cc2_scratch0) (by decide)]
  simp only [scr2, owns_whole]; try rfl

/-- The third pipeline's proof data: arrays as found, inputs' buffers left at their blocks, outputs' at the body's results. -/
def dat2 (c : Dev nD) : Dat τ (Elt F) Unit ℕ (UR sig nD τ) ℕ cfg2 c where
  A w := V c (Pipeline.arrRef spec2 w)
  after w t := match w with
    | ⟨0, _⟩ => in2 V c 0 t
    | ⟨1, _⟩ => in2 V c 1 t
    | ⟨2, _⟩ => in2 V c 2 t
    | ⟨3, _⟩ => k2_pay2 (k2_pay1 (in2 V c 0 t)) (in2 V c 1 t) (in2 V c 2 t)
  Φ _ := iprop(((∃ d, owns (c : Thread nD τ) scr2 fullShare d) ∗ others2 c) ∗ ∃ r, prngReg c r)
  q _ := fullShare
  owed _ := 0

theorem dat2_A (c : Dev nD) (w : Fin cfg2.W) : (dat2 V c).A w = V c (Pipeline.arrRef spec2 w) := by dsimp only [dat2]
theorem left2_0 (c : Dev nD) (t : Fin cfg2.N) : (dat2 V c).after 0 t = in2 V c 0 t := by dsimp only [dat2]
theorem left2_1 (c : Dev nD) (t : Fin cfg2.N) : (dat2 V c).after 1 t = in2 V c 1 t := by dsimp only [dat2]
theorem left2_2 (c : Dev nD) (t : Fin cfg2.N) : (dat2 V c).after 2 t = in2 V c 2 t := by dsimp only [dat2]
theorem left2_3 (c : Dev nD) (t : Fin cfg2.N) : (dat2 V c).after 3 t = k2_pay2 (k2_pay1 (in2 V c 0 t)) (in2 V c 1 t) (in2 V c 2 t) := by dsimp only [dat2]

/-- Input 0's buffer holds its block when the body is called. -/
theorem found2_0 (c : Dev nD) (t : Fin cfg2.N) (d) : (dat2 V c).before 0 t d = in2 V c 0 t :=
  ((dat2 V c).before_in_eq_fetched 0 rfl (fun _ => rfl) (fun _ _ _ => rfl)
      (fun t => by rw [left2_0]; unfold Dat.blockOf in2; rw [dat2_A]; try rfl) t d).trans
    (by unfold Dat.fetched Dat.blockOf in2; rw [dat2_A]; try rfl)
/-- Input 1's buffer holds its block when the body is called. -/
theorem found2_1 (c : Dev nD) (t : Fin cfg2.N) (d) : (dat2 V c).before 1 t d = in2 V c 1 t :=
  ((dat2 V c).before_in_eq_fetched 1 rfl (fun _ => rfl) (fun _ _ _ => rfl)
      (fun t => by rw [left2_1]; unfold Dat.blockOf in2; rw [dat2_A]; try rfl) t d).trans
    (by unfold Dat.fetched Dat.blockOf in2; rw [dat2_A]; try rfl)
/-- Input 2's buffer holds its block when the body is called. -/
theorem found2_2 (c : Dev nD) (t : Fin cfg2.N) (d) : (dat2 V c).before 2 t d = in2 V c 2 t :=
  ((dat2 V c).before_in_eq_fetched 2 rfl (fun _ => rfl) (fun _ _ _ => rfl)
      (fun t => by rw [left2_2]; unfold Dat.blockOf in2; rw [dat2_A]; try rfl) t d).trans
    (by unfold Dat.fetched Dat.blockOf in2; rw [dat2_A]; try rfl)

/-- What the third body is called with, -/
def pre2 (c : Dev nD) (t : Fin cfg2.N) : sProp 𝕄 :=
  iprop((dat2 V c).Φ t.castSucc ∗ (dat2 V c).owesAt () t.castSucc
    ∗ (∃ d, owns (c : Thread nD τ) (buf2_0 t) fullShare ((dat2 V c).before 0 t d))
    ∗ (∃ d, owns (c : Thread nD τ) (buf2_1 t) fullShare ((dat2 V c).before 1 t d))
    ∗ (∃ d, owns (c : Thread nD τ) (buf2_2 t) fullShare ((dat2 V c).before 2 t d))
    ∗ (∃ d, owns (c : Thread nD τ) (buf2_3 t) fullShare ((dat2 V c).before 3 t d)))

/-- and what it leaves. -/
def post2 (c : Dev nD) (t : Fin cfg2.N) : sProp 𝕄 :=
  iprop((dat2 V c).Φ t.succ ∗ (dat2 V c).owesAt () t.succ
    ∗ owns (c : Thread nD τ) (buf2_0 t) fullShare ((dat2 V c).after 0 t)
    ∗ owns (c : Thread nD τ) (buf2_1 t) fullShare ((dat2 V c).after 1 t)
    ∗ owns (c : Thread nD τ) (buf2_2 t) fullShare ((dat2 V c).after 2 t)
    ∗ owns (c : Thread nD τ) (buf2_3 t) fullShare ((dat2 V c).after 3 t))

set_option maxHeartbeats 1000000 in
/-- The third body at any point: it takes its scratch at anything and leaves it at something. -/
theorem body2 (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1, found2_2]
  rw [show (dat2 V c).owesAt () t.succ = (dat2 V c).owesAt () t.castSucc from rfl, left2_0, left2_1, left2_2, left2_3,
    show (dat2 V c).Φ t.succ = (dat2 V c).Φ t.castSucc from rfl,
    show (dat2 V c).Φ t.castSucc = iprop(((∃ d, owns (c : Thread nD τ) scr2 fullShare d) ∗ others2 c) ∗ ∃ r, prngReg c r) from rfl]
  iintro ⟨⟨⟨HS, HR⟩, Hg⟩, Ho, ⟨%d0, H0⟩, ⟨%d1, H1⟩, ⟨%d2, H2⟩, ⟨%d3, H3⟩⟩
  iapply (third_body c (grid2.coords t) _ _ _ _ _ _ _ _ _ _ (in2 V c 0 t) (in2 V c 1 t) (in2 V c 2 t) Set.univ _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR Hg]
  · isplitl [HS HR]
    · isplitl [HS]; · iexact HS
      iexact HR
    iexact Hg
  isplitl [Ho]; · iexact Ho
  isplitl [H0]; · iexact H0
  isplitl [H1]; · iexact H1
  isplitl [H2]; · iexact H2
  iexact H3

/-- The body's obligation to the third pipeline, at every grid point. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (body2 V c t) rfl .rfl fun _ => .rfl

end Cert.Proof

end
-- ==== Proof.Region.lean ====
/- One kernel region of @main as a segment of the run, for any of the three pipelines: entered with every unscoped
   buffer at given contents, left with them at given contents, provided the pipeline's arrays start and end there and
   the pipeline's invariant starts from, and ends in, the scoped buffers at anything. -/
module

public import proofs.«01_k».proof.Proof.Gen.KernelIdeal.Launch
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

/-- No level is assigned: no core owes another anything. -/
abbrev noLevels : GSem nD τ sig → Finset Unit := fun _ => ∅
abbrev noLevel : GSem nD τ sig → Unit → ℕ := fun _ _ => 0

/-- What a core carries beside its buffers from segment to segment: its generator register, and that it owes nothing. -/
abbrev carried (c : Dev nD) : sProp 𝕄 := iprop((∃ r, prngReg c r) ∗ ∃ W, owes (c : Thread nD τ) (0 : CellTallies nD τ sig Unit) W)

/-- The thread state between segments: the unscoped buffers at `W`, and what is carried. -/
abbrev between (W : Dev nD → Valuation τ sig (Elt F)) (c : Dev nD) : sProp 𝕄 :=
  iprop(StableHlo.held (c : Thread nD τ) (Pipeline.ucRefs τ sig) (W c) ∗ carried c)

set_option backward.isDefEq.respectTransparency.types false in
/-- The region of pipeline `p`, from the buffers at `W` to the buffers at `W'`. -/
def region (pd : (p : Fin 3) → (c : Dev nD) → Dat τ (Elt F) Unit ℕ (UR sig nD τ) ℕ (Pipeline.pin (pcfgs (F := F)) adm p) c)
    (p : Fin 3) (facts : Pipeline.LaunchFacts (nD := nD) (τ := τ) cfgs p)
    (full : ∀ c w, (pd p c).q w = fullShare) (noOwed : ∀ c t, (pd p c).owed t = 0)
    (any : ∀ c t, (pd p c).recorded t = Set.univ)
    (body : ∀ c, BodyObligation (pd p c) (defs₀ (F := F)) Variants.none () Set.univ)
    (W W' : Dev nD → Valuation τ sig (Elt F))
    (starts : ∀ c w, (pd p c).A w = W c (Proc.devRef .tc (Pipeline.arrRef (cfgs p).spec w)))
    (ends : ∀ c w, (pd p c).arrAt w (cfgs p).N = W' c (Proc.devRef .tc (Pipeline.arrRef (cfgs p).spec w)))
    (rest : ∀ c (b : Ref sig .tc), b ∉ Finset.univ.image (Pipeline.arrRef (cfgs p).spec) →
      W' c (Proc.devRef .tc b) = W c (Proc.devRef .tc b))
    (enter : ∀ c, (Pipeline.ΦA (cfgs p).spec c : sProp 𝕄) ⊢ (pd p c).Φ 0)
    (leave : ∀ c, (pd p c).Φ (Fin.last _) ⊢ (Pipeline.ΦA (cfgs p).spec c : sProp 𝕄)) :
    Pipeline.RegionSeg (pcfgs (F := F)) adm pd () defs₀ Variants.none noLevels noLevel p where
  win := facts.win.to₀
  block_pos := facts.block_pos
  stage_whole := facts.stage_whole
  K := PEmpty
  osem k := k.elim
  ho := Pipeline.OwnSemFacts.none _
  hbody c := (body c).loose
  hwaits := Pipeline.hwaits_of_owed_zero _ _ _ _ noLevels noLevel p noOwed
  pre c := between W c
  post c := between W' c
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    rw [Pipeline.ownSems0_none]
    have split := Pipeline.arrays_of_unscopedBufs (p := p) (pcfgs (F := F)) adm pd facts.win facts.arr_whole c
      ((pd p c).share_full (full c)) (fun b => W c b) (starts c)
    rw [Pipeline.unscopedBufs_held] at split
    iintro ⟨⟨Hub, Hp, HO⟩, -, -⟩
    ihave H := split $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [noOwed]
      icases HO with ⟨%U, HO⟩; iexists U; isplitr; · ipureintro; exact fun _ _ => Or.inl (by rw [any]; trivial)
      iexact HO
    isplitl [Hp]; · iexact Hp
    iexact Hrest
  hin c := by
    refine BIBase.Entails.trans ?_ (enter c)
    unfold Pipeline.ΦA
    iintro ⟨Hp, -, Hr⟩
    isplitl [Hr]; · iexact Hr
    iexact Hp
  hout c := by
    rw [Pipeline.ownSems0_none]
    refine (leave c).trans ?_
    unfold Pipeline.ΦA
    iintro ⟨Hr, Hp⟩
    isplitl [Hp]; · iexact Hp
    isplitr; · iempintro
    iexact Hr
  hexit c := by
    have join := Pipeline.unscopedBufs_of_arrays (p := p) (pcfgs (F := F)) adm (Ix := Unit) (Name := ℕ) (U := UR sig nD τ) (Lvl := ℕ)
      facts.win facts.arr_whole c pd ((pd p c).share_full (full c))
      (fun b => W c b) (fun b => W' c b) ((pd p c).arrAt · (cfgs p).N) (ends c) (rest c)
    rw [Pipeline.unscopedBufs_held] at join
    iintro ⟨Ha, HO, HY, Hrest⟩
    imodintro
    isplitl [Ha Hrest]
    · iapply join; isplitl [Ha] <;> iassumption
    isplitl [HY]; · iexact HY
    unfold Pipeline.Dat.owesAt Pipeline.owesWithin
    rw [noOwed]
    icases HO with ⟨%U, -, HO⟩; iexists U; iexact HO

end Cert.Proof

end
-- ==== Proof.Launch.lean ====
/- The run of @main: the buffers' contents between its items, its three regions as segments, and what every final
   state holds: the arguments as launched, the result as the last pipeline leaves it, every semaphore at zero. -/
module

public import proofs.«01_k».proof.Proof.Data
public import proofs.«01_k».proof.Proof.Region
public import proofs.«01_k».proof.Proof.Gen.KernelIdeal.Launch
public import proofs.«01_k».proof.Proof.Gen.KernelIdeal.Regions
public import Idealize.ShloMosaic.Lib.Pipeline.FrameBody
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's arguments. -/
abbrev args : List (Ref sig .tc) := [main_arg0, main_arg1, main_arg2, main_arg3, main_arg4, main_arg5, main_arg6]

/-- The buffers at launch, -/
abbrev held0 : Dev nD → Valuation τ sig (Elt F) := fun c b => (s₀ m ρ).mem (c, b)
/-- after the two bias rows are reshaped (the first region's entry), -/
def held1 (c : Dev nD) : Valuation τ sig (Elt F) := StableHlo.after hostOps0 (held0 m ρ c)
/-- read at the TensorCore's references. -/
abbrev at1 : (c : Dev nD) → (b : Ref sig .tc) → Buf (Elt F) ((c : Thread nD τ).loc b) := fun c b => held1 m ρ c b

/-- The buffers after the first region: its arrays as its pipeline leaves them, the others as they were. -/
def held2 (c : Dev nD) : Valuation τ sig (Elt F) :=
  Pipeline.withArrays spec0 c (held1 m ρ c) fun w => (dat0 (at1 m ρ) c).arrAt w cfg0.N
abbrev at2 : (c : Dev nD) → (b : Ref sig .tc) → Buf (Elt F) ((c : Thread nD τ).loc b) := fun c b => held2 m ρ c b
theorem held2_arr (c : Dev nD) (w : Fin cfg0.W) :
    held2 m ρ c (Proc.devRef .tc (Pipeline.arrRef spec0 w)) = (dat0 (at1 m ρ) c).arrAt w cfg0.N := by
  unfold held2; exact Pipeline.withArrays_arr spec0 launch0.win.arr_inj c _ _ w
theorem held2_else (c : Dev nD) (b : Ref sig .tc) (hb : b ∉ Finset.univ.image (Pipeline.arrRef spec0)) :
    held2 m ρ c (Proc.devRef .tc b) = held1 m ρ c (Proc.devRef .tc b) := by
  unfold held2
  exact Pipeline.withArrays_of_ne spec0 c _ _ b fun w e => hb (Finset.mem_image.mpr ⟨w, Finset.mem_univ _, e⟩)
/-- A buffer that is no output of the first region is left by it as it was. -/
theorem held2_keep (c : Dev nD) (b : Ref sig .tc) (h : ∀ w : Fin cfg0.W, Pipeline.arrRef spec0 w = b → (cfg0.win w).isOut = false) :
    held2 m ρ c (Proc.devRef .tc b) = held1 m ρ c (Proc.devRef .tc b) := by
  by_cases hw : b ∈ Finset.univ.image (Pipeline.arrRef spec0)
  · obtain ⟨w, -, rfl⟩ := Finset.mem_image.mp hw
    exact (held2_arr m ρ c w).trans (((dat0 (at1 m ρ) c).arrAt_in w (h w rfl) _).trans (dat0_A (at1 m ρ) c w))
  · exact held2_else m ρ c b hw

/-- The buffers after the second region: its arrays as its pipeline leaves them, the others as they were. -/
def held3 (c : Dev nD) : Valuation τ sig (Elt F) :=
  Pipeline.withArrays spec1 c (held2 m ρ c) fun w => (dat1 (at2 m ρ) c).arrAt w cfg1.N
abbrev at3 : (c : Dev nD) → (b : Ref sig .tc) → Buf (Elt F) ((c : Thread nD τ).loc b) := fun c b => held3 m ρ c b
theorem held3_arr (c : Dev nD) (w : Fin cfg1.W) :
    held3 m ρ c (Proc.devRef .tc (Pipeline.arrRef spec1 w)) = (dat1 (at2 m ρ) c).arrAt w cfg1.N := by
  unfold held3; exact Pipeline.withArrays_arr spec1 launch1.win.arr_inj c _ _ w
theorem held3_else (c : Dev nD) (b : Ref sig .tc) (hb : b ∉ Finset.univ.image (Pipeline.arrRef spec1)) :
    held3 m ρ c (Proc.devRef .tc b) = held2 m ρ c (Proc.devRef .tc b) := by
  unfold held3
  exact Pipeline.withArrays_of_ne spec1 c _ _ b fun w e => hb (Finset.mem_image.mpr ⟨w, Finset.mem_univ _, e⟩)
/-- A buffer that is no output of the second region is left by it as it was. -/
theorem held3_keep (c : Dev nD) (b : Ref sig .tc) (h : ∀ w : Fin cfg1.W, Pipeline.arrRef spec1 w = b → (cfg1.win w).isOut = false) :
    held3 m ρ c (Proc.devRef .tc b) = held2 m ρ c (Proc.devRef .tc b) := by
  by_cases hw : b ∈ Finset.univ.image (Pipeline.arrRef spec1)
  · obtain ⟨w, -, rfl⟩ := Finset.mem_image.mp hw
    exact (held3_arr m ρ c w).trans (((dat1 (at2 m ρ) c).arrAt_in w (h w rfl) _).trans (dat1_A (at2 m ρ) c w))
  · exact held3_else m ρ c b hw

/-- The buffers after the third region: its arrays as its pipeline leaves them, the others as they were. -/
def held4 (c : Dev nD) : Valuation τ sig (Elt F) :=
  Pipeline.withArrays spec2 c (held3 m ρ c) fun w => (dat2 (at3 m ρ) c).arrAt w cfg2.N
abbrev at4 : (c : Dev nD) → (b : Ref sig .tc) → Buf (Elt F) ((c : Thread nD τ).loc b) := fun c b => held4 m ρ c b
theorem held4_arr (c : Dev nD) (w : Fin cfg2.W) :
    held4 m ρ c (Proc.devRef .tc (Pipeline.arrRef spec2 w)) = (dat2 (at3 m ρ) c).arrAt w cfg2.N := by
  unfold held4; exact Pipeline.withArrays_arr spec2 launch2.win.arr_inj c _ _ w
theorem held4_else (c : Dev nD) (b : Ref sig .tc) (hb : b ∉ Finset.univ.image (Pipeline.arrRef spec2)) :
    held4 m ρ c (Proc.devRef .tc b) = held3 m ρ c (Proc.devRef .tc b) := by
  unfold held4
  exact Pipeline.withArrays_of_ne spec2 c _ _ b fun w e => hb (Finset.mem_image.mpr ⟨w, Finset.mem_univ _, e⟩)
/-- A buffer that is no output of the third region is left by it as it was. -/
theorem held4_keep (c : Dev nD) (b : Ref sig .tc) (h : ∀ w : Fin cfg2.W, Pipeline.arrRef spec2 w = b → (cfg2.win w).isOut = false) :
    held4 m ρ c (Proc.devRef .tc b) = held3 m ρ c (Proc.devRef .tc b) := by
  by_cases hw : b ∈ Finset.univ.image (Pipeline.arrRef spec2)
  · obtain ⟨w, -, rfl⟩ := Finset.mem_image.mp hw
    exact (held4_arr m ρ c w).trans (((dat2 (at3 m ρ) c).arrAt_in w (h w rfl) _).trans (dat2_A (at3 m ρ) c w))
  · exact held4_else m ρ c b hw

/-- The host stretch writes the two reshaped rows and nothing else. -/
theorem held1_keep (c : Dev nD) (b : Ref sig .tc) (h : b ∉ hostOps0_W) : held1 m ρ c (Proc.devRef .tc b) = m ((c : Thread nD τ).loc b) :=
  (StableHlo.after_of_writes_sub hostOps0 _ hostOps0_writes h).trans rfl

theorem args_not_written : ∀ a ∈ args, a ∉ hostOps0_W := by decide +kernel
theorem args_in0 : ∀ a ∈ args, ∀ w : Fin cfg0.W, Pipeline.arrRef spec0 w = a → (cfg0.win w).isOut = false := by decide +kernel
theorem args_in1 : ∀ a ∈ args, ∀ w : Fin cfg1.W, Pipeline.arrRef spec1 w = a → (cfg1.win w).isOut = false := by decide +kernel
theorem args_in2 : ∀ a ∈ args, ∀ w : Fin cfg2.W, Pipeline.arrRef spec2 w = a → (cfg2.win w).isOut = false := by decide +kernel

/-- No item changes an argument. -/
theorem held4_args (c : Dev nD) (a : Ref sig .tc) (ha : a ∈ args) : held4 m ρ c (Proc.devRef .tc a) = m ((c : Thread nD τ).loc a) :=
  (held4_keep m ρ c a (args_in2 a ha)).trans <| (held3_keep m ρ c a (args_in1 a ha)).trans <|
    (held2_keep m ρ c a (args_in0 a ha)).trans <| held1_keep m ρ c a (args_not_written a ha)

/-- Every pipeline's proof data, at its region's entry contents. -/
def allDats : (p : Fin 3) → (c : Dev nD) → Dat τ (Elt F) Unit ℕ (UR sig nD τ) ℕ (Pipeline.pin (pcfgs (F := F)) adm p) c
  | ⟨0, _⟩ => fun c => dat0 (at1 m ρ) c
  | ⟨1, _⟩ => fun c => dat1 (at2 m ρ) c
  | ⟨2, _⟩ => fun c => dat2 (at3 m ρ) c

/-- The first region: the scratch starts at anything and ends at the features' product, which is something. -/
def region0 : Pipeline.RegionSeg (pcfgs (F := F)) adm (allDats m ρ) () defs₀ Variants.none noLevels noLevel 0 :=
  region (allDats m ρ) 0 launch0 (fun _ _ => rfl) (fun _ _ => rfl) (fun _ _ => rfl) (fun c => obligation0 (at1 m ρ) c)
    (held1 m ρ) (held2 m ρ) (fun c w => dat0_A (at1 m ρ) c w) (fun c w => (held2_arr m ρ c w).symm) (held2_else m ρ)
    (fun c => by
      rw [show (allDats m ρ 0 c).Φ 0 = iprop((scrAt0 (at1 m ρ) c 0 ∗ others0 c) ∗ ∃ r, prngReg c r) from rfl, scrAt0_zero]
      unfold Pipeline.ΦA; rw [show (cfgs 0).spec = spec0 from rfl, scoped0])
    (fun c => by
      rw [show (allDats m ρ 0 c).Φ (Fin.last _) = iprop((scrAt0 (at1 m ρ) c 25 ∗ others0 c) ∗ ∃ r, prngReg c r) from rfl,
        scrAt0_pos _ _ (by decide)]
      unfold Pipeline.ΦA; rw [show (cfgs 0).spec = spec0 from rfl, scoped0]
      iintro ⟨⟨HS, HR⟩, Hg⟩
      isplitl [HS HR]
      · isplitl [HS]; · iexists _; iexact HS
        iexact HR
      iexact Hg)

/-- The second region. -/
def region1 : Pipeline.RegionSeg (pcfgs (F := F)) adm (allDats m ρ) () defs₀ Variants.none noLevels noLevel 1 :=
  region (allDats m ρ) 1 launch1 (fun _ _ => rfl) (fun _ _ => rfl) (fun _ _ => rfl) (fun c => obligation1 (at2 m ρ) c)
    (held2 m ρ) (held3 m ρ) (fun c w => dat1_A (at2 m ρ) c w) (fun c w => (held3_arr m ρ c w).symm) (held3_else m ρ)
    (fun c => by
      rw [show (allDats m ρ 1 c).Φ 0 = iprop(((∃ d, owns (c : Thread nD τ) scr1 fullShare d) ∗ others1 c) ∗ ∃ r, prngReg c r) from rfl]
      unfold Pipeline.ΦA; rw [show (cfgs 1).spec = spec1 from rfl, scoped1])
    (fun c => by
      rw [show (allDats m ρ 1 c).Φ (Fin.last _) = iprop(((∃ d, owns (c : Thread nD τ) scr1 fullShare d) ∗ others1 c) ∗ ∃ r, prngReg c r) from rfl]
      unfold Pipeline.ΦA; rw [show (cfgs 1).spec = spec1 from rfl, scoped1])

/-- The third region. -/
def region2 : Pipeline.RegionSeg (pcfgs (F := F)) adm (allDats m ρ) () defs₀ Variants.none noLevels noLevel 2 :=
  region (allDats m ρ) 2 launch2 (fun _ _ => rfl) (fun _ _ => rfl) (fun _ _ => rfl) (fun c => obligation2 (at3 m ρ) c)
    (held3 m ρ) (held4 m ρ) (fun c w => dat2_A (at3 m ρ) c w) (fun c w => (held4_arr m ρ c w).symm) (held4_else m ρ)
    (fun c => by
      rw [show (allDats m ρ 2 c).Φ 0 = iprop(((∃ d, owns (c : Thread nD τ) scr2 fullShare d) ∗ others2 c) ∗ ∃ r, prngReg c r) from rfl]
      unfold Pipeline.ΦA; rw [show (cfgs 2).spec = spec2 from rfl, scoped2])
    (fun c => by
      rw [show (allDats m ρ 2 c).Φ (Fin.last _) = iprop(((∃ d, owns (c : Thread nD τ) scr2 fullShare d) ∗ others2 c) ∗ ∃ r, prngReg c r) from rfl]
      unfold Pipeline.ΦA; rw [show (cfgs 2).spec = spec2 from rfl, scoped2])

/-- The host stretch as a segment, from the launched buffers. -/
abbrev reshapes : Pipeline.HostSeg (Name := ℕ) (U := UR sig nD τ) (pcfgs (F := F)) defs₀ Variants.none noLevels noLevel :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (held0 m ρ) carried

/-- @main's items in order. -/
abbrev items : List (Pipeline.Seg (pcfgs (F := F)) adm (allDats m ρ) () defs₀ Variants.none noLevels noLevel) :=
  [.host (reshapes m ρ), .region (region0 m ρ), .region (region1 m ρ), .region (region2 m ρ)]

theorem main_items (c : Dev nD) : main (F := F) c = Pipeline.Seg.run (items m ρ) := (main_chain c).trans (by chain_rfl)

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem args_unscoped : ∀ a ∈ args, ¬ (Proc.devRef .tc a : DevRef τ sig).isScoped := by decide

/-- The last thread state, but for what the core owes. -/
abbrev atEnd (c : Dev nD) : sProp 𝕄 :=
  iprop(StableHlo.held (c : Thread nD τ) (Pipeline.ucRefs τ sig) (held4 m ρ c) ∗ ∃ r, prngReg c r)

set_option backward.isDefEq.respectTransparency.types false in
/-- Every execution of @main ends, nothing faulting, with the arguments as launched, the result at what the third
    pipeline leaves in it, and every semaphore at zero. -/
theorem run_main : θ_run defs (onTc (τ := τ) (main (F := F))) ⟨m, fun _ => 0, ρ⟩ (fun r =>
      (∀ c : Dev nD, (∀ a ∈ args, r.2.mem ((c.tc : Thread nD τ).loc a) = m ((c.tc : Thread nD τ).loc a))
        ∧ r.2.mem ((c.tc : Thread nD τ).loc main_v4) = (dat2 (at3 m ρ) c).arrAt 3 cfg2.N)
      ∧ r.2.sem = fun _ => 0) :=
  Pipeline.θ_run_regions_kit_sems (pcfgs (F := F)) adm (allDats m ρ) () cellOf_inj emb₁ defs₀ Variants.none noLevels noLevel m ρ main
    (items m ρ) (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (held0 m ρ)) (Tₙ := atEnd m ρ)
    (hch := ⟨fun _ => .rfl, fun _ => .rfl, fun _ => .rfl, fun _ => .rfl, fun c => by
      refine (show (Pipeline.Seg.region (region2 m ρ)).post c ⊢ between (held4 m ρ) c from .rfl).trans ?_
      iintro ⟨Hh, Hp, HO⟩
      isplitl [Hh Hp]
      · isplitl [Hh]; · iexact Hh
        iexact Hp
      iexact HO⟩)
    (hinit := by
      refine Pipeline.initEach noLevels noLevel fun c => ?_
      rw [show unscopedBufs c (fun b => m ((c : Thread nD τ).loc b)) = StableHlo.held (c : Thread nD τ) (Pipeline.ucRefs τ sig) (held0 m ρ c)
        from Pipeline.unscopedBufs_held c (held0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = held4 m ρ c b)
    (hfin := fun c s' => by
      iintro ⟨⟨Hh, -⟩, HSI⟩
      unfold StableHlo.held
      imodintro
      iapply (pointsTo_read_all (Pipeline.ucRefs τ sig) (fun b => (((c : Thread nD τ)).1, b)) (held4 m ρ c) s')
      isplitl [Hh] <;> iassumption)
    (hQ := fun s h hz => ⟨fun c =>
      ⟨fun a ha => (h c _ (mem_unscoped a (args_unscoped a ha))).trans (held4_args m ρ c a ha),
       (h c _ (mem_unscoped main_v4 (by decide))).trans (held4_arr m ρ c 3)⟩,
      funext fun g => hz g (.inr (regions_no_unscoped g.2))⟩)

end Cert.Proof

end
-- ==== Proof.Equation.lean ====
/- The mathematics of the claim, over the extended reals and away from any program: the quantiser's levels are the
   integers 0..15, and scaling by 1/15 after each of two products is the product with the squared scaled matrix. -/
module

public import Idealize.ShloMosaic.PureOps.Ideal

@[expose] public section

noncomputable section

namespace Cert.Proof

open Idealize.ShloMosaic
open scoped BigOperators

/-- The quantiser's level of an entry: fifteen times the entry, rounded to even, clipped to 0..15. -/
def level (x : EReal) : EReal := min 15 (max 0 (Ideal.liftRound Ideal.roundHalfEven (x * 15)))

/-- Every level is one of the integers 0..15. -/
theorem level_nat (x : EReal) : ∃ n : ℕ, n ≤ 15 ∧ level x = ((n : ℝ) : EReal) := by
  unfold level
  generalize x * 15 = y
  have e15 : (15 : EReal) = (((15 : ℕ) : ℝ) : EReal) := by norm_cast
  induction y using EReal.rec with
  | bot =>
    refine ⟨0, by norm_num, ?_⟩
    rw [Ideal.liftRound_bot, max_eq_left bot_le, Nat.cast_zero, EReal.coe_zero]
    exact min_eq_right (by norm_num)
  | top =>
    refine ⟨15, le_rfl, ?_⟩
    rw [Ideal.liftRound_top, max_eq_right le_top, min_eq_left le_top, e15]
  | coe r =>
    rw [Ideal.liftRound_coe]
    generalize Ideal.roundHalfEven r = z
    refine ⟨(min 15 (max 0 z)).toNat, by omega, ?_⟩
    have hz : (((min 15 (max 0 z)).toNat : ℕ) : ℝ) = min 15 (max 0 (z : ℝ)) := by
      have h : (((min 15 (max 0 z)).toNat : ℕ) : ℤ) = min 15 (max 0 z) := Int.toNat_of_nonneg (by omega)
      rw [← Int.cast_natCast, h]; push_cast; rfl
    have mono : Monotone ((↑) : ℝ → EReal) := EReal.coe_strictMono.monotone
    rw [hz, mono.map_min, mono.map_max, EReal.coe_zero]
    rfl

/-- Reading a level as a 4-bit code and the code as an integer gives the level back. -/
theorem code_level (x : EReal) : (((Ideal.fptoui 4 (level x)).toNat : ℝ) : EReal) = level x := by
  obtain ⟨n, hn, h⟩ := level_nat x
  rw [h]
  have e : Ideal.toIntClamped 0 ((2 ^ 4 : Nat) - 1) ((n : ℝ) : EReal) = n := by
    show max 0 (min _ (if 0 ≤ (n : ℝ) then ⌊(n : ℝ)⌋ else ⌈(n : ℝ)⌉)) = _
    rw [if_pos (Nat.cast_nonneg n), Int.floor_natCast]
    omega
  unfold Ideal.fptoui
  rw [e, BitVec.ofInt_natCast, BitVec.toNat_ofNat, Nat.mod_eq_of_lt (by omega)]

/-- A real nonnegative factor goes into a finite sum of extended reals. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A sum of nonnegative reals times an extended real is the sum of the products. -/
theorem coe_sum_mul {ι : Type} (s : Finset ι) (a : ι → ℝ) (ha : ∀ i, 0 ≤ a i) (y : EReal) :
    ((∑ i ∈ s, a i : ℝ) : EReal) * y = ∑ i ∈ s, (a i : EReal) * y := by
  classical
  induction s using Finset.induction_on with
  | empty => simp
  | insert i s hi ih =>
    rw [Finset.sum_insert hi, Finset.sum_insert hi, EReal.coe_add,
      EReal.right_distrib_of_nonneg (EReal.coe_nonneg.mpr (ha i)) (EReal.coe_nonneg.mpr (Finset.sum_nonneg fun j _ => ha j)), ih]

theorem coe_finset_sum {ι : Type} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- The equation: two products with the integer levels, each scaled by 1/15, are one product with the square of the
    levels over 15. Every coefficient is a nonnegative real, so it holds at any extended reals `s`. -/
theorem two_scaled_products {n : ℕ} (q : Fin n → Fin n → EReal) (hq : ∀ i j, ∃ k : ℕ, q i j = ((k : ℝ) : EReal))
    (s : Fin n → EReal) (r : Fin n) :
    (∑ k, q r k * ((∑ l, q k l * s l) * ((15⁻¹ : ℝ) : EReal))) * ((15⁻¹ : ℝ) : EReal)
      = ∑ l, (∑ k, Ideal.div (q r k) ((15 : ℝ) : EReal) * Ideal.div (q k l) ((15 : ℝ) : EReal)) * s l := by
  choose c hc using hq
  have h15 : (0 : ℝ) ≤ 15⁻¹ := by norm_num
  have hdiv : ∀ i j, Ideal.div (q i j) ((15 : ℝ) : EReal) = (((c i j : ℝ) * 15⁻¹ : ℝ) : EReal) := fun i j => by
    rw [Ideal.div_coe (by norm_num), hc, ← EReal.coe_mul, one_div]
  have hpos : ∀ i j, (0 : ℝ) ≤ (c i j : ℝ) * 15⁻¹ := fun i j => mul_nonneg (Nat.cast_nonneg _) h15
  have right : ∀ l, (∑ k, Ideal.div (q r k) ((15 : ℝ) : EReal) * Ideal.div (q k l) ((15 : ℝ) : EReal)) * s l
      = ∑ k, ((((c r k : ℝ) * 15⁻¹) * ((c k l : ℝ) * 15⁻¹) : ℝ) : EReal) * s l := fun l => by
    simp only [hdiv, ← EReal.coe_mul]
    rw [← coe_finset_sum, coe_sum_mul _ _ fun k => mul_nonneg (hpos r k) (hpos k l)]
  have left : ∀ k, ((15⁻¹ : ℝ) : EReal) * (q r k * ((∑ l, q k l * s l) * ((15⁻¹ : ℝ) : EReal)))
      = ∑ l, ((((c r k : ℝ) * 15⁻¹) * ((c k l : ℝ) * 15⁻¹) : ℝ) : EReal) * s l := fun k => by
    rw [mul_comm (∑ l, q k l * s l), coe_mul_sum _ h15, hc r k, coe_mul_sum _ (Nat.cast_nonneg _), coe_mul_sum _ h15]
    refine Finset.sum_congr rfl fun l _ => ?_
    rw [hc k l, ← mul_assoc, ← mul_assoc, ← mul_assoc, ← EReal.coe_mul, ← EReal.coe_mul, ← EReal.coe_mul]
    congr 2
    ring
  rw [mul_comm, coe_mul_sum _ h15]
  simp only [left, right]
  exact Finset.sum_comm

end Cert.Proof

end
-- ==== Proof.Values.lean ====
/- What each payload of the three kernel bodies is at the ideal values, read at one index. -/
module

public import proofs.«01_k».proof.Proof.Equation
public import proofs.«01_k».proof.Proof.Gen.KernelIdeal.Skeleton
public import Idealize.ShloMosaic.Lib.MatmulPlain
public import Idealize.ShloMosaic.Lib.Pointwise.Reshape
public import Idealize.ShloMosaic.Lib.Pointwise.ShapeOpsCore
public import Idealize.ShloMosaic.Lib.Pipeline.Value

@[expose] public section

set_option maxRecDepth 16384

noncomputable section

namespace Cert.Proof

open Cert.KernelIdeal Cert.KernelIdeal.Gen
open Idealize.ShloMosaic
open scoped BigOperators

/-- The literal 15.0 denotes the real 15, and 0.0 zero. -/
theorem bits_fifteen : Ideal.ofBits .f32 0x41700000#32 = ((15 : ℝ) : EReal) := by
  simp [Ideal.ofBits, Ideal.ieee, -EReal.coe_mul]; norm_num
theorem bits_zero : Ideal.ofBits .f32 0x00000000#32 = 0 := by
  simp [Ideal.ofBits, Ideal.ieee]

/-- The named constant denotes the real 1/15. -/
theorem fifteenth : Named.named (F := Ideal) κ "fifteenth" (φ := .f32) 0x3D888889#32 = ((15⁻¹ : ℝ) : EReal) :=
  IdealRules.named_const.ideal_named_scalar _ _ _ _ rfl

/-- The features' product, at a row and a column. -/
theorem pay1_at (x : Vec Ideal S10000x128 .f32) (w : Vec Ideal S128x128 .f32) (r : Fin 10000) (j : Fin 128) :
    k0_pay1 x w (ValueIdx.ix2 r j) = ∑ f : Fin 128, x (ValueIdx.ix2 r f) * w (ValueIdx.ix2 f j) := by
  unfold k0_pay1
  rw [shapeCast_id]
  refine (Ideal.matmul_plain_apply (M := 10000) (K := 128) (N := 128) (φ₁ := .bf16) (φ₂ := .bf16) none x w _ r j).trans ?_
  rw [show constant (F := Ideal) S10000x128 .f32 0x00000000#32 (ValueIdx.ix2 r j) = 0 from bits_zero, zero_add]

/-- The second layer's support from a block of adjacency rows, at a row and a column. -/
theorem pay3_at (a : Vec Ideal S400x10000 .f32) (s : Vec Ideal S10000x128 .bf16) (b : Vec Ideal S1x128 .f32) (w : Vec Ideal S128x64 .f32)
    (r : Fin 400) (j : Fin 64) :
    k0_pay3 a s b w (ValueIdx.ix2 r j)
      = ∑ h : Fin 128, max ((∑ l : Fin 10000, a (ValueIdx.ix2 r l) * s (ValueIdx.ix2 l h)) + b (ValueIdx.ix2 0 h)) 0 * w (ValueIdx.ix2 h j) := by
  unfold k0_pay3
  rw [shapeCast_id]
  refine (Ideal.matmul_plain_apply (M := 400) (K := 128) (N := 64) (φ₁ := .bf16) (φ₂ := .bf16) none _ w _ r j).trans ?_
  rw [show constant (F := Ideal) S400x64 .f32 0x00000000#32 (ValueIdx.ix2 r j) = 0 from bits_zero, zero_add]
  refine Finset.sum_congr rfl fun h _ => congrArg (· * w (ValueIdx.ix2 h j)) ?_
  refine congrArg₂ max (congrArg₂ (· + ·) ?_ ?_) bits_zero
  · refine (Ideal.matmul_plain_apply (M := 400) (K := 10000) (N := 128) (φ₁ := .bf16) (φ₂ := .bf16) none a s _ r h).trans ?_
    rw [show constant (F := Ideal) S400x128 .f32 0x00000000#32 (ValueIdx.ix2 r h) = 0 from bits_zero, zero_add]
  · rw [Pointwise.broadcastTo_apply]
    refine congrArg b (funext fun d => Fin.ext ?_)
    match d with
    | ⟨0, _⟩ => rfl
    | ⟨1, _⟩ => rfl

/-- The code of an entry is its level read as a 4-bit integer. -/
theorem pay2_at (a : Vec Ideal S400x10000 .f32) (y : S400x10000.Idx) : k0_pay2 a y = Ideal.fptoui 4 (level (a y)) := by
  unfold k0_pay2 level
  show Ideal.fptoui 4 (min (Ideal.ofBits .f32 0x41700000#32) (max (Ideal.ofBits .f32 0x00000000#32)
    (Ideal.liftRound Ideal.roundHalfEven (a y * Ideal.ofBits .f32 0x41700000#32)))) = _
  rw [bits_fifteen, bits_zero]
  rfl

/-- One scaled product with a block of codes, at a row and a column (the second kernel's result). -/
theorem pay4_at (q : Vec Ideal S1000x10000 .i4) (s : Vec Ideal S10000x64 .bf16) (r : Fin 1000) (j : Fin 64) :
    k1_pay2 (k1_pay1 q) s (ValueIdx.ix2 r j)
      = (∑ l : Fin 10000, (((q (ValueIdx.ix2 r l)).toNat : ℝ) : EReal) * s (ValueIdx.ix2 l j)) * ((15⁻¹ : ℝ) : EReal) := by
  unfold k1_pay2 k1_pay1
  simp only [shapeCast_id]
  refine congrArg₂ (· * ·) ?_ fifteenth
  refine (Ideal.matmul_plain_apply (M := 1000) (K := 10000) (N := 64) (φ₁ := .bf16) (φ₂ := .bf16) none _ s _ r j).trans ?_
  rw [show constant (F := Ideal) S1000x64 .f32 0x00000000#32 (ValueIdx.ix2 r j) = 0 from bits_zero, zero_add]
  rfl

/-- The same and a bias (the third kernel's result). -/
theorem pay5_at (q : Vec Ideal S1000x10000 .i4) (s : Vec Ideal S10000x64 .bf16) (b : Vec Ideal S1x64 .f32) (r : Fin 1000) (j : Fin 64) :
    k2_pay2 (k2_pay1 q) s b (ValueIdx.ix2 r j)
      = (∑ l : Fin 10000, (((q (ValueIdx.ix2 r l)).toNat : ℝ) : EReal) * s (ValueIdx.ix2 l j)) * ((15⁻¹ : ℝ) : EReal) + b (ValueIdx.ix2 0 j) := by
  unfold k2_pay2
  have product := pay4_at q s r j
  unfold k1_pay2 at product
  rw [shapeCast_id] at product ⊢
  rw [shapeCast_id]
  refine congrArg₂ (· + ·) product ?_
  rw [Pointwise.broadcastTo_apply]
  refine congrArg b (funext fun d => Fin.ext ?_)
  match d with
  | ⟨0, _⟩ => rfl
  | ⟨1, _⟩ => rfl

end Cert.Proof

end
-- ==== Proof.Arrays.lean ====
/- What the arrays hold after each pipeline at the ideal values, index by index, in terms of what the region was
   entered with: the codes and the support after the first, the scaled product after the second, the result after the third. -/
module

public import proofs.«01_k».proof.Proof.Data
public import proofs.«01_k».proof.Proof.Values
public import Idealize.ShloMosaic.Lib.Pipeline.FrameValue
public import Idealize.ShloMosaic.Lib.Pipeline.Value

@[expose] public section

set_option maxRecDepth 16384

noncomputable section

namespace Cert.Proof

open Cert.KernelIdeal Cert.KernelIdeal.Gen
open Idealize.ShloMosaic Idealize.ShloMosaic.TcCoe
open Idealize.ShloMosaic.Pipeline (Dat)
open scoped BigOperators

variable (V : (c : Dev nD) → (b : Ref sig .tc) → Buf (Elt Ideal) ((c : Thread nD τ).loc b))

/-! ## Which rows a block holds -/

/-- In the first pipeline, point `t` takes the `t`-th block of rows of the windows that move, and the whole of the others. -/
theorem rows0 : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = t.val ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = t.val ∧ win0_5.index t (1 : Fin 2) = 0 ∧ win0_6.index t (0 : Fin 2) = t.val ∧ win0_6.index t (1 : Fin 2) = 0 :=
  (by decide +kernel : ∀ t : Fin grid0.N, _)
theorem flushes0 : ∀ t : Fin cfg0.N, (cfg0.win 5).flush t = true ∧ (cfg0.win 6).flush t = true :=
  (by decide +kernel : ∀ t : Fin grid0.N, _)

/-- In the second pipeline, point `t` takes the `t`-th block of rows of the windows that move, and the whole of the others. -/
theorem rows1 : ∀ t : Fin cfg1.N, win1_0.index t (0 : Fin 2) = t.val ∧ win1_0.index t (1 : Fin 2) = 0 ∧ win1_1.index t (0 : Fin 2) = 0 ∧ win1_1.index t (1 : Fin 2) = 0 ∧ win1_2.index t (0 : Fin 2) = t.val ∧ win1_2.index t (1 : Fin 2) = 0 :=
  (by decide +kernel : ∀ t : Fin grid1.N, _)
theorem flushes1 : ∀ t : Fin cfg1.N, (cfg1.win 2).flush t = true :=
  (by decide +kernel : ∀ t : Fin grid1.N, _)

/-- In the third pipeline, point `t` takes the `t`-th block of rows of the windows that move, and the whole of the others. -/
theorem rows2 : ∀ t : Fin cfg2.N, win2_0.index t (0 : Fin 2) = t.val ∧ win2_0.index t (1 : Fin 2) = 0 ∧ win2_1.index t (0 : Fin 2) = 0 ∧ win2_1.index t (1 : Fin 2) = 0 ∧ win2_2.index t (0 : Fin 2) = 0 ∧ win2_2.index t (1 : Fin 2) = 0 ∧ win2_3.index t (0 : Fin 2) = t.val ∧ win2_3.index t (1 : Fin 2) = 0 :=
  (by decide +kernel : ∀ t : Fin grid2.N, _)
theorem flushes2 : ∀ t : Fin cfg2.N, (cfg2.win 3).flush t = true :=
  (by decide +kernel : ∀ t : Fin grid2.N, _)

/-! ## An input block, read at one index -/

theorem in0_0_at (c : Dev nD) (t : Fin cfg0.N) (r : Fin 10000) (j : Fin 128) :
    in0 V c 0 t (ValueIdx.ix2 r j) = V c main_arg1 (ValueIdx.ix2 r j) := by
  refine congrArg (V c main_arg1) (funext fun d => Fin.ext ?_)
  have e0 := (rows0 t).1; have e1 := (rows0 t).2.1
  match d with
  | ⟨0, _⟩ => show win0_0.index t (0 : Fin 2) * 10000 + 1 * r.val = r.val; omega
  | ⟨1, _⟩ => show win0_0.index t (1 : Fin 2) * 128 + 1 * j.val = j.val; omega

theorem in0_1_at (c : Dev nD) (t : Fin cfg0.N) (r : Fin 128) (j : Fin 128) :
    in0 V c 1 t (ValueIdx.ix2 r j) = V c main_arg3 (ValueIdx.ix2 r j) := by
  refine congrArg (V c main_arg3) (funext fun d => Fin.ext ?_)
  have e0 := (rows0 t).2.2.1; have e1 := (rows0 t).2.2.2.1
  match d with
  | ⟨0, _⟩ => show win0_1.index t (0 : Fin 2) * 128 + 1 * r.val = r.val; omega
  | ⟨1, _⟩ => show win0_1.index t (1 : Fin 2) * 128 + 1 * j.val = j.val; omega

theorem in0_2_at (c : Dev nD) (t : Fin cfg0.N) (r : Fin 400) (j : Fin 10000) :
    in0 V c 2 t (ValueIdx.ix2 r j) = V c main_arg2 (ValueIdx.ix2 ⟨t.val * 400 + r.val, by have := r.isLt; have := Nat.lt_of_lt_of_eq t.isLt N_0; omega⟩ j) := by
  refine congrArg (V c main_arg2) (funext fun d => Fin.ext ?_)
  have e0 := (rows0 t).2.2.2.2.1; have e1 := (rows0 t).2.2.2.2.2.1
  match d with
  | ⟨0, _⟩ => show win0_2.index t (0 : Fin 2) * 400 + 1 * r.val = t.val * 400 + r.val; omega
  | ⟨1, _⟩ => show win0_2.index t (1 : Fin 2) * 10000 + 1 * j.val = j.val; omega

theorem in0_3_at (c : Dev nD) (t : Fin cfg0.N) (r : Fin 1) (j : Fin 128) :
    in0 V c 3 t (ValueIdx.ix2 r j) = V c main_v0 (ValueIdx.ix2 r j) := by
  refine congrArg (V c main_v0) (funext fun d => Fin.ext ?_)
  have e0 := (rows0 t).2.2.2.2.2.2.1; have e1 := (rows0 t).2.2.2.2.2.2.2.1
  match d with
  | ⟨0, _⟩ => show win0_3.index t (0 : Fin 2) * 1 + 1 * r.val = r.val; omega
  | ⟨1, _⟩ => show win0_3.index t (1 : Fin 2) * 128 + 1 * j.val = j.val; omega

theorem in0_4_at (c : Dev nD) (t : Fin cfg0.N) (r : Fin 128) (j : Fin 64) :
    in0 V c 4 t (ValueIdx.ix2 r j) = V c main_arg5 (ValueIdx.ix2 r j) := by
  refine congrArg (V c main_arg5) (funext fun d => Fin.ext ?_)
  have e0 := (rows0 t).2.2.2.2.2.2.2.2.1; have e1 := (rows0 t).2.2.2.2.2.2.2.2.2.1
  match d with
  | ⟨0, _⟩ => show win0_4.index t (0 : Fin 2) * 128 + 1 * r.val = r.val; omega
  | ⟨1, _⟩ => show win0_4.index t (1 : Fin 2) * 64 + 1 * j.val = j.val; omega

theorem in1_0_at (c : Dev nD) (t : Fin cfg1.N) (r : Fin 1000) (j : Fin 10000) :
    in1 V c 0 t (ValueIdx.ix2 r j) = V c main_v2_1 (ValueIdx.ix2 ⟨t.val * 1000 + r.val, by have := r.isLt; have := Nat.lt_of_lt_of_eq t.isLt N_1; omega⟩ j) := by
  refine congrArg (V c main_v2_1) (funext fun d => Fin.ext ?_)
  have e0 := (rows1 t).1; have e1 := (rows1 t).2.1
  match d with
  | ⟨0, _⟩ => show win1_0.index t (0 : Fin 2) * 1000 + 1 * r.val = t.val * 1000 + r.val; omega
  | ⟨1, _⟩ => show win1_0.index t (1 : Fin 2) * 10000 + 1 * j.val = j.val; omega

theorem in1_1_at (c : Dev nD) (t : Fin cfg1.N) (r : Fin 10000) (j : Fin 64) :
    in1 V c 1 t (ValueIdx.ix2 r j) = V c main_v2_0 (ValueIdx.ix2 r j) := by
  refine congrArg (V c main_v2_0) (funext fun d => Fin.ext ?_)
  have e0 := (rows1 t).2.2.1; have e1 := (rows1 t).2.2.2.1
  match d with
  | ⟨0, _⟩ => show win1_1.index t (0 : Fin 2) * 10000 + 1 * r.val = r.val; omega
  | ⟨1, _⟩ => show win1_1.index t (1 : Fin 2) * 64 + 1 * j.val = j.val; omega

theorem in2_0_at (c : Dev nD) (t : Fin cfg2.N) (r : Fin 1000) (j : Fin 10000) :
    in2 V c 0 t (ValueIdx.ix2 r j) = V c main_v2_1 (ValueIdx.ix2 ⟨t.val * 1000 + r.val, by have := r.isLt; have := Nat.lt_of_lt_of_eq t.isLt N_2; omega⟩ j) := by
  refine congrArg (V c main_v2_1) (funext fun d => Fin.ext ?_)
  have e0 := (rows2 t).1; have e1 := (rows2 t).2.1
  match d with
  | ⟨0, _⟩ => show win2_0.index t (0 : Fin 2) * 1000 + 1 * r.val = t.val * 1000 + r.val; omega
  | ⟨1, _⟩ => show win2_0.index t (1 : Fin 2) * 10000 + 1 * j.val = j.val; omega

theorem in2_1_at (c : Dev nD) (t : Fin cfg2.N) (r : Fin 10000) (j : Fin 64) :
    in2 V c 1 t (ValueIdx.ix2 r j) = V c main_v3 (ValueIdx.ix2 r j) := by
  refine congrArg (V c main_v3) (funext fun d => Fin.ext ?_)
  have e0 := (rows2 t).2.2.1; have e1 := (rows2 t).2.2.2.1
  match d with
  | ⟨0, _⟩ => show win2_1.index t (0 : Fin 2) * 10000 + 1 * r.val = r.val; omega
  | ⟨1, _⟩ => show win2_1.index t (1 : Fin 2) * 64 + 1 * j.val = j.val; omega

theorem in2_2_at (c : Dev nD) (t : Fin cfg2.N) (r : Fin 1) (j : Fin 64) :
    in2 V c 2 t (ValueIdx.ix2 r j) = V c main_v1 (ValueIdx.ix2 r j) := by
  refine congrArg (V c main_v1) (funext fun d => Fin.ext ?_)
  have e0 := (rows2 t).2.2.2.2.1; have e1 := (rows2 t).2.2.2.2.2.1
  match d with
  | ⟨0, _⟩ => show win2_2.index t (0 : Fin 2) * 1 + 1 * r.val = r.val; omega
  | ⟨1, _⟩ => show win2_2.index t (1 : Fin 2) * 64 + 1 * j.val = j.val; omega

/-! ## The arrays a pipeline writes -/

/-- What `main_v2_0` holds after the first pipeline: the second layer's support of every node. -/
def supportOf (X : Vec Ideal S10000x128 .f32) (A : Vec Ideal S10000x10000 .f32) (W₁ : Vec Ideal S128x128 .f32) (b : Vec Ideal S1x128 .f32) (W₂ : Vec Ideal S128x64 .f32) :
    Vec Ideal S10000x64 .bf16 := fun i =>
  ∑ h : Fin 128, max ((∑ l : Fin 10000, A (ValueIdx.ix2 (i 0) l) * ∑ f : Fin 128, X (ValueIdx.ix2 l f) * W₁ (ValueIdx.ix2 f h))
    + b (ValueIdx.ix2 0 h)) 0 * W₂ (ValueIdx.ix2 h (i 1))

/-- Point `t` writes back its block of it. -/
theorem support_block (c : Dev nD) (t : Fin cfg0.N) :
    (dat0 V c).flushed 5 t = ((cfg0.win 5).blk t).view.read (Elt Ideal) (supportOf (V c main_arg1) (V c main_arg2) (V c main_arg3) (V c main_v0) (V c main_arg5)) := by
  show (cfg0.win 5).cut (grid0.coords t) ((dat0 V c).after 5 t) = _
  rw [left0_5]
  funext y
  have hy0 : (y 0).val < 400 := (y 0).isLt
  have hy1 : (y 1).val < 64 := (y 1).isLt
  have e0 := (rows0 t).2.2.2.2.2.2.2.2.2.2.1; have e1 := (rows0 t).2.2.2.2.2.2.2.2.2.2.2.1
  have ht := Nat.lt_of_lt_of_eq t.isLt N_0
  have here : (cfg0.win 5).xinj (grid0.coords t) y = ValueIdx.ix2 (⟨(y 0).val, hy0⟩ : Fin 400) (⟨(y 1).val, hy1⟩ : Fin 64) :=
    funext fun d => Fin.ext (by match d with
      | ⟨0, _⟩ => rfl
      | ⟨1, _⟩ => rfl)
  have there : ((cfg0.win 5).blk t).view.emb y
      = ValueIdx.ix2 (⟨t.val * 400 + (y 0).val, by omega⟩ : Fin 10000) (⟨(y 1).val, hy1⟩ : Fin 64) :=
    funext fun d => Fin.ext (by match d with
      | ⟨0, _⟩ => show win0_5.index t (0 : Fin 2) * 400 + 1 * (y 0).val = t.val * 400 + (y 0).val; omega
      | ⟨1, _⟩ => show win0_5.index t (1 : Fin 2) * 64 + 1 * (y 1).val = (y 1).val; omega)
  show _ = (supportOf (V c main_arg1) (V c main_arg2) (V c main_arg3) (V c main_v0) (V c main_arg5)) (((cfg0.win 5).blk t).view.emb y)
  rw [there]
  refine (congrArg _ here).trans ?_
  refine (pay3_at _ _ _ _ _ _).trans ?_
  simp only [pay1_at, in0_0_at, in0_1_at, in0_2_at, in0_3_at, in0_4_at]
  rfl

/-- Every index is in some point's block. -/
theorem support_covered (i : S10000x64.Idx) : ∃ t : Fin cfg0.N, (cfg0.win 5).flush t = true ∧ i ∈ ((cfg0.win 5).blk t).view.set := by
  have h0 : (i 0).val < 10000 := (i 0).isLt
  have h1 : (i 1).val < 64 := (i 1).isLt
  let t : Fin cfg0.N := ⟨(i 0).val / 400, Nat.lt_of_lt_of_eq (by omega) N_0.symm⟩
  have e0 : win0_5.index t (0 : Fin 2) = (i 0).val / 400 := (rows0 t).2.2.2.2.2.2.2.2.2.2.1
  have e1 := (rows0 t).2.2.2.2.2.2.2.2.2.2.2.1
  refine ⟨t, (flushes0 t).1, ?_⟩
  show i ∈ ((View.whole main_v2_0).slice (win0_5.rect t)).set
  rw [View.set_slice_whole, Rect.mem_set_unit]
  intro d
  match d with
  | ⟨0, _⟩ => show win0_5.index t (0 : Fin 2) * 400 ≤ (i 0).val ∧ (i 0).val < win0_5.index t (0 : Fin 2) * 400 + 400; omega
  | ⟨1, _⟩ => show win0_5.index t (1 : Fin 2) * 64 ≤ (i 1).val ∧ (i 1).val < win0_5.index t (1 : Fin 2) * 64 + 64; omega

theorem support_array (c : Dev nD) : (dat0 V c).arrAt 5 cfg0.N = supportOf (V c main_arg1) (V c main_arg2) (V c main_arg3) (V c main_v0) (V c main_arg5) :=
  (dat0 V c).arrAt_eq_of_cover 5 _ (fun t _ => support_block V c t) support_covered

/-- What `main_v2_1` holds after the first pipeline: every adjacency entry's level as a 4-bit code. -/
def codesOf (A : Vec Ideal S10000x10000 .f32) :
    Vec Ideal S10000x10000 .i4 := fun i =>
  Ideal.fptoui 4 (level (A i))

/-- Point `t` writes back its block of it. -/
theorem codes_block (c : Dev nD) (t : Fin cfg0.N) :
    (dat0 V c).flushed 6 t = ((cfg0.win 6).blk t).view.read (Elt Ideal) (codesOf (V c main_arg2)) := by
  show (cfg0.win 6).cut (grid0.coords t) ((dat0 V c).after 6 t) = _
  rw [left0_6]
  funext y
  have hy0 : (y 0).val < 400 := (y 0).isLt
  have hy1 : (y 1).val < 10000 := (y 1).isLt
  have e0 := (rows0 t).2.2.2.2.2.2.2.2.2.2.2.2.1; have e1 := (rows0 t).2.2.2.2.2.2.2.2.2.2.2.2.2
  have ht := Nat.lt_of_lt_of_eq t.isLt N_0
  have here : (cfg0.win 6).xinj (grid0.coords t) y = ValueIdx.ix2 (⟨(y 0).val, hy0⟩ : Fin 400) (⟨(y 1).val, hy1⟩ : Fin 10000) :=
    funext fun d => Fin.ext (by match d with
      | ⟨0, _⟩ => rfl
      | ⟨1, _⟩ => rfl)
  have there : ((cfg0.win 6).blk t).view.emb y
      = ValueIdx.ix2 (⟨t.val * 400 + (y 0).val, by omega⟩ : Fin 10000) (⟨(y 1).val, hy1⟩ : Fin 10000) :=
    funext fun d => Fin.ext (by match d with
      | ⟨0, _⟩ => show win0_6.index t (0 : Fin 2) * 400 + 1 * (y 0).val = t.val * 400 + (y 0).val; omega
      | ⟨1, _⟩ => show win0_6.index t (1 : Fin 2) * 10000 + 1 * (y 1).val = (y 1).val; omega)
  show _ = (codesOf (V c main_arg2)) (((cfg0.win 6).blk t).view.emb y)
  rw [there]
  refine (congrArg _ here).trans ?_
  exact (pay2_at (in0 V c 2 t) _).trans (congrArg (fun x => Ideal.fptoui 4 (level x)) (in0_2_at V c t _ _))

/-- Every index is in some point's block. -/
theorem codes_covered (i : S10000x10000.Idx) : ∃ t : Fin cfg0.N, (cfg0.win 6).flush t = true ∧ i ∈ ((cfg0.win 6).blk t).view.set := by
  have h0 : (i 0).val < 10000 := (i 0).isLt
  have h1 : (i 1).val < 10000 := (i 1).isLt
  let t : Fin cfg0.N := ⟨(i 0).val / 400, Nat.lt_of_lt_of_eq (by omega) N_0.symm⟩
  have e0 : win0_6.index t (0 : Fin 2) = (i 0).val / 400 := (rows0 t).2.2.2.2.2.2.2.2.2.2.2.2.1
  have e1 := (rows0 t).2.2.2.2.2.2.2.2.2.2.2.2.2
  refine ⟨t, (flushes0 t).2, ?_⟩
  show i ∈ ((View.whole main_v2_1).slice (win0_6.rect t)).set
  rw [View.set_slice_whole, Rect.mem_set_unit]
  intro d
  match d with
  | ⟨0, _⟩ => show win0_6.index t (0 : Fin 2) * 400 ≤ (i 0).val ∧ (i 0).val < win0_6.index t (0 : Fin 2) * 400 + 400; omega
  | ⟨1, _⟩ => show win0_6.index t (1 : Fin 2) * 10000 ≤ (i 1).val ∧ (i 1).val < win0_6.index t (1 : Fin 2) * 10000 + 10000; omega

theorem codes_array (c : Dev nD) : (dat0 V c).arrAt 6 cfg0.N = codesOf (V c main_arg2) :=
  (dat0 V c).arrAt_eq_of_cover 6 _ (fun t _ => codes_block V c t) codes_covered

/-- What `main_v3` holds after the second pipeline: the codes' product with the support, over 15. -/
def productOf (q : Vec Ideal S10000x10000 .i4) (s : Vec Ideal S10000x64 .bf16) :
    Vec Ideal S10000x64 .bf16 := fun i =>
  (∑ l : Fin 10000, (((q (ValueIdx.ix2 (i 0) l)).toNat : ℝ) : EReal) * s (ValueIdx.ix2 l (i 1))) * ((15⁻¹ : ℝ) : EReal)

/-- Point `t` writes back its block of it. -/
theorem product_block (c : Dev nD) (t : Fin cfg1.N) :
    (dat1 V c).flushed 2 t = ((cfg1.win 2).blk t).view.read (Elt Ideal) (productOf (V c main_v2_1) (V c main_v2_0)) := by
  show (cfg1.win 2).cut (grid1.coords t) ((dat1 V c).after 2 t) = _
  rw [left1_2]
  funext y
  have hy0 : (y 0).val < 1000 := (y 0).isLt
  have hy1 : (y 1).val < 64 := (y 1).isLt
  have e0 := (rows1 t).2.2.2.2.1; have e1 := (rows1 t).2.2.2.2.2
  have ht := Nat.lt_of_lt_of_eq t.isLt N_1
  have here : (cfg1.win 2).xinj (grid1.coords t) y = ValueIdx.ix2 (⟨(y 0).val, hy0⟩ : Fin 1000) (⟨(y 1).val, hy1⟩ : Fin 64) :=
    funext fun d => Fin.ext (by match d with
      | ⟨0, _⟩ => rfl
      | ⟨1, _⟩ => rfl)
  have there : ((cfg1.win 2).blk t).view.emb y
      = ValueIdx.ix2 (⟨t.val * 1000 + (y 0).val, by omega⟩ : Fin 10000) (⟨(y 1).val, hy1⟩ : Fin 64) :=
    funext fun d => Fin.ext (by match d with
      | ⟨0, _⟩ => show win1_2.index t (0 : Fin 2) * 1000 + 1 * (y 0).val = t.val * 1000 + (y 0).val; omega
      | ⟨1, _⟩ => show win1_2.index t (1 : Fin 2) * 64 + 1 * (y 1).val = (y 1).val; omega)
  show _ = (productOf (V c main_v2_1) (V c main_v2_0)) (((cfg1.win 2).blk t).view.emb y)
  rw [there]
  refine (congrArg _ here).trans ?_
  refine (pay4_at _ _ _ _).trans ?_
  simp only [in1_0_at, in1_1_at]
  rfl

/-- Every index is in some point's block. -/
theorem product_covered (i : S10000x64.Idx) : ∃ t : Fin cfg1.N, (cfg1.win 2).flush t = true ∧ i ∈ ((cfg1.win 2).blk t).view.set := by
  have h0 : (i 0).val < 10000 := (i 0).isLt
  have h1 : (i 1).val < 64 := (i 1).isLt
  let t : Fin cfg1.N := ⟨(i 0).val / 1000, Nat.lt_of_lt_of_eq (by omega) N_1.symm⟩
  have e0 : win1_2.index t (0 : Fin 2) = (i 0).val / 1000 := (rows1 t).2.2.2.2.1
  have e1 := (rows1 t).2.2.2.2.2
  refine ⟨t, flushes1 t, ?_⟩
  show i ∈ ((View.whole main_v3).slice (win1_2.rect t)).set
  rw [View.set_slice_whole, Rect.mem_set_unit]
  intro d
  match d with
  | ⟨0, _⟩ => show win1_2.index t (0 : Fin 2) * 1000 ≤ (i 0).val ∧ (i 0).val < win1_2.index t (0 : Fin 2) * 1000 + 1000; omega
  | ⟨1, _⟩ => show win1_2.index t (1 : Fin 2) * 64 ≤ (i 1).val ∧ (i 1).val < win1_2.index t (1 : Fin 2) * 64 + 64; omega

theorem product_array (c : Dev nD) : (dat1 V c).arrAt 2 cfg1.N = productOf (V c main_v2_1) (V c main_v2_0) :=
  (dat1 V c).arrAt_eq_of_cover 2 _ (fun t _ => product_block V c t) product_covered

/-- What `main_v4` holds after the third pipeline: the codes' product with the second kernel's array, over 15, plus the bias. -/
def resultOf (q : Vec Ideal S10000x10000 .i4) (s : Vec Ideal S10000x64 .bf16) (b : Vec Ideal S1x64 .f32) :
    Vec Ideal S10000x64 .f32 := fun i =>
  (∑ l : Fin 10000, (((q (ValueIdx.ix2 (i 0) l)).toNat : ℝ) : EReal) * s (ValueIdx.ix2 l (i 1))) * ((15⁻¹ : ℝ) : EReal)
    + b (ValueIdx.ix2 0 (i 1))

/-- Point `t` writes back its block of it. -/
theorem result_block (c : Dev nD) (t : Fin cfg2.N) :
    (dat2 V c).flushed 3 t = ((cfg2.win 3).blk t).view.read (Elt Ideal) (resultOf (V c main_v2_1) (V c main_v3) (V c main_v1)) := by
  show (cfg2.win 3).cut (grid2.coords t) ((dat2 V c).after 3 t) = _
  rw [left2_3]
  funext y
  have hy0 : (y 0).val < 1000 := (y 0).isLt
  have hy1 : (y 1).val < 64 := (y 1).isLt
  have e0 := (rows2 t).2.2.2.2.2.2.1; have e1 := (rows2 t).2.2.2.2.2.2.2
  have ht := Nat.lt_of_lt_of_eq t.isLt N_2
  have here : (cfg2.win 3).xinj (grid2.coords t) y = ValueIdx.ix2 (⟨(y 0).val, hy0⟩ : Fin 1000) (⟨(y 1).val, hy1⟩ : Fin 64) :=
    funext fun d => Fin.ext (by match d with
      | ⟨0, _⟩ => rfl
      | ⟨1, _⟩ => rfl)
  have there : ((cfg2.win 3).blk t).view.emb y
      = ValueIdx.ix2 (⟨t.val * 1000 + (y 0).val, by omega⟩ : Fin 10000) (⟨(y 1).val, hy1⟩ : Fin 64) :=
    funext fun d => Fin.ext (by match d with
      | ⟨0, _⟩ => show win2_3.index t (0 : Fin 2) * 1000 + 1 * (y 0).val = t.val * 1000 + (y 0).val; omega
      | ⟨1, _⟩ => show win2_3.index t (1 : Fin 2) * 64 + 1 * (y 1).val = (y 1).val; omega)
  show _ = (resultOf (V c main_v2_1) (V c main_v3) (V c main_v1)) (((cfg2.win 3).blk t).view.emb y)
  rw [there]
  refine (congrArg _ here).trans ?_
  refine (pay5_at _ _ _ _ _).trans ?_
  simp only [in2_0_at, in2_1_at, in2_2_at]
  rfl

/-- Every index is in some point's block. -/
theorem result_covered (i : S10000x64.Idx) : ∃ t : Fin cfg2.N, (cfg2.win 3).flush t = true ∧ i ∈ ((cfg2.win 3).blk t).view.set := by
  have h0 : (i 0).val < 10000 := (i 0).isLt
  have h1 : (i 1).val < 64 := (i 1).isLt
  let t : Fin cfg2.N := ⟨(i 0).val / 1000, Nat.lt_of_lt_of_eq (by omega) N_2.symm⟩
  have e0 : win2_3.index t (0 : Fin 2) = (i 0).val / 1000 := (rows2 t).2.2.2.2.2.2.1
  have e1 := (rows2 t).2.2.2.2.2.2.2
  refine ⟨t, flushes2 t, ?_⟩
  show i ∈ ((View.whole main_v4).slice (win2_3.rect t)).set
  rw [View.set_slice_whole, Rect.mem_set_unit]
  intro d
  match d with
  | ⟨0, _⟩ => show win2_3.index t (0 : Fin 2) * 1000 ≤ (i 0).val ∧ (i 0).val < win2_3.index t (0 : Fin 2) * 1000 + 1000; omega
  | ⟨1, _⟩ => show win2_3.index t (1 : Fin 2) * 64 ≤ (i 1).val ∧ (i 1).val < win2_3.index t (1 : Fin 2) * 64 + 64; omega

theorem result_array (c : Dev nD) : (dat2 V c).arrAt 3 cfg2.N = resultOf (V c main_v2_1) (V c main_v3) (V c main_v1) :=
  (dat2 V c).arrAt_eq_of_cover 3 _ (fun t _ => result_block V c t) result_covered

end Cert.Proof

end
-- ==== Proof.Reference.lean ====
/- What the reference computes, index by index, as sums over the arguments. -/
module

public import proofs.«01_k».proof.Proof.Values
public import proofs.«01_k».proof.Proof.Gen.ReferenceIdeal.Read

@[expose] public section

set_option maxRecDepth 16384

noncomputable section

namespace Cert.Proof

open Cert.ReferenceIdeal Cert.ReferenceIdeal.Read
open Idealize.ShloMosaic
open scoped BigOperators

/-- The second layer's support of node `l`: the first layer's output there, after the first bias and the rectifier, times the second weights. -/
def supportAt (X : Vec Ideal S10000x128 .f32) (A : Vec Ideal S10000x10000 .f32) (W₁ : Vec Ideal S128x128 .f32) (b₁ : Vec Ideal S128 .f32)
    (W₂ : Vec Ideal S128x64 .f32) (l : Fin 10000) (j : Fin 64) : EReal :=
  ∑ h : Fin 128, max ((∑ k : Fin 10000, A (ValueIdx.ix2 l k) * ∑ f : Fin 128, X (ValueIdx.ix2 k f) * W₁ (ValueIdx.ix2 f h)) + b₁ (ValueIdx.ix1 h)) 0
    * W₂ (ValueIdx.ix2 h j)

variable (X : Vec Ideal S10000x128 .f32) (A : Vec Ideal S10000x10000 .f32) (W₁ : Vec Ideal S128x128 .f32) (b₁ : Vec Ideal S128 .f32)
  (W₂ : Vec Ideal S128x64 .f32) (b₂ : Vec Ideal S64 .f32)

/-- Two indices of a two-axis shape with the same coordinates are the same. -/
theorem same_index {m n : ℕ} (x y : (⟨2, ![m, n]⟩ : Shape).Idx) (h₀ : (x 0).val = (y 0).val) (h₁ : (x 1).val = (y 1).val) : x = y :=
  funext fun a => Fin.ext (match a with
    | ⟨0, _⟩ => h₀
    | ⟨1, _⟩ => h₁)

/-- The reference's quantised adjacency: the level over 15. -/
theorem quantised_at (i : S10000x10000.Idx) : val_main_v12 (F := Ideal) A i = Ideal.div (level (A i)) ((15 : ℝ) : EReal) := by
  rw [val_main_v12_apply, val_main_v10_apply, val_main_call1_v4_apply, val_main_call1_v3_apply, val_main_cst_2_apply, val_main_call1_v2_apply,
    val_main_call1_v1_apply, val_main_call1_v0_apply, val_main_cst_1_apply, val_main_v9_apply, val_main_v8_apply, val_main_v7_apply,
    val_main_cst_0_apply, val_main_v11_apply, val_main_cst_3_apply]
  show Ideal.div (min (Ideal.ofBits .f32 0x41700000#32) (max (Ideal.ofBits .f32 0x00000000#32)
    (Ideal.liftRound Ideal.roundHalfEven (A i * Ideal.ofBits .f32 0x41700000#32)))) (Ideal.ofBits .f32 0x41700000#32) = _
  rw [bits_fifteen, bits_zero]
  rfl

/-- The reference's first layer at a node and a hidden feature. -/
theorem hidden_at (l : Fin 10000) (h : Fin 128) :
    val_main_v6 (F := Ideal) X A W₁ b₁ (ValueIdx.ix2 l h)
      = max ((∑ k : Fin 10000, A (ValueIdx.ix2 l k) * ∑ f : Fin 128, X (ValueIdx.ix2 k f) * W₁ (ValueIdx.ix2 f h)) + b₁ (ValueIdx.ix1 h)) 0 := by
  rw [val_main_v6_apply, val_main_v4_apply, val_main_v1_apply, val_main_v3_apply, val_main_v2_apply, val_main_v5_apply, val_main_cst_apply]
  refine congrArg₂ max (congrArg₂ (· + ·) (Finset.sum_congr rfl fun k _ => congrArg₂ (· * ·) (congrArg A ?_) ?_) (congrArg b₁ ?_)) bits_zero
  · exact same_index _ _ rfl rfl
  · rw [val_main_v0_apply]
    exact Finset.sum_congr rfl fun f _ => congrArg₂ (· * ·) (congrArg X (same_index _ _ rfl rfl)) (congrArg W₁ (same_index _ _ rfl rfl))
  · exact funext fun a => match a with
      | ⟨0, _⟩ => rfl

/-- The reference's second support. -/
theorem reference_support (l : Fin 10000) (j : Fin 64) :
    val_main_v14 (F := Ideal) X A W₁ b₁ W₂ (ValueIdx.ix2 l j) = supportAt X A W₁ b₁ W₂ l j := by
  rw [val_main_v14_apply]
  unfold supportAt
  refine Finset.sum_congr rfl fun h _ => congrArg₂ (· * ·) ?_ (congrArg W₂ (same_index _ _ rfl rfl))
  rw [← hidden_at]
  exact congrArg _ (same_index _ _ rfl rfl)

/-- The reference's result: the squared quantised adjacency times the support, plus the second bias. -/
theorem reference_at (r : Fin 10000) (j : Fin 64) :
    val_main_v18 (F := Ideal) X A W₁ b₁ W₂ b₂ (ValueIdx.ix2 r j)
      = (∑ l : Fin 10000, (∑ k : Fin 10000, Ideal.div (level (A (ValueIdx.ix2 r k))) ((15 : ℝ) : EReal) * Ideal.div (level (A (ValueIdx.ix2 k l))) ((15 : ℝ) : EReal))
          * supportAt X A W₁ b₁ W₂ l j) + b₂ (ValueIdx.ix1 j) := by
  rw [val_main_v18_apply, val_main_v15_apply, val_main_v17_apply, val_main_v16_apply]
  refine congrArg₂ (· + ·) (Finset.sum_congr rfl fun l _ => congrArg₂ (· * ·) ?_ ?_) (congrArg b₂ ?_)
  · rw [val_main_v13_apply]
    refine Finset.sum_congr rfl fun k _ => congrArg₂ (· * ·) ?_ ?_
    · rw [quantised_at]
      exact congrArg (fun i => Ideal.div (level (A i)) _) (same_index _ _ rfl rfl)
    · rw [quantised_at]
      exact congrArg (fun i => Ideal.div (level (A i)) _) (same_index _ _ rfl rfl)
  · rw [← reference_support]
    exact congrArg _ (same_index _ _ rfl rfl)
  · exact funext fun a => match a with
      | ⟨0, _⟩ => rfl

end Cert.Proof

end
-- ==== Proof.Result.lean ====
/- The equality of the two results: the kernel's three pipelines chained from the arguments, and the reference's sums. -/
module

public import proofs.«01_k».proof.Proof.Launch
public import proofs.«01_k».proof.Proof.Arrays
public import proofs.«01_k».proof.Proof.Reference

@[expose] public section

set_option maxRecDepth 16384

noncomputable section

namespace Cert.Proof

open Cert.KernelIdeal Cert.KernelIdeal.Gen
open Idealize.ShloMosaic Idealize.ShloMosaic.TcCoe
open scoped BigOperators

variable (m : (ℓ : Loc nD τ sig) → Buf (Elt Ideal) ℓ) (ρ : Dev nD → PrngReg) (c : Dev nD)

/-! ## The arguments, and the two reshaped bias rows, at the regions' entries -/

/-- The first region finds the arguments as launched. -/
theorem at1_arg (a : Ref sig .tc) (ha : a ∈ args) : at1 m ρ c a = m ((c : Thread nD τ).loc a) :=
  held1_keep m ρ c a (args_not_written a ha)

/-- The first bias as a row. -/
theorem at1_bias (j : Fin 128) : at1 m ρ c main_v0 (ValueIdx.ix2 0 j) = m ((c : Thread nD τ).loc main_arg4) (ValueIdx.ix1 j) := by
  have e : at1 m ρ c main_v0 = shapeCast S1x128 (m ((c : Thread nD τ).loc main_arg4)) shapeCasts_S128_S1x128 := rfl
  rw [e]
  refine (shapeCast_addUnit_apply (α := Ideal .f32) ![128] _ shapeCasts_S128_S1x128 _).trans (congrArg _ ?_)
  exact funext fun a => match a with
    | ⟨0, _⟩ => rfl

/-- The second bias as a row: the first two regions keep it. -/
theorem at3_bias (j : Fin 64) : at3 m ρ c main_v1 (ValueIdx.ix2 0 j) = m ((c : Thread nD τ).loc main_arg6) (ValueIdx.ix1 j) := by
  have e : at3 m ρ c main_v1 = shapeCast S1x64 (m ((c : Thread nD τ).loc main_arg6)) shapeCasts_S64_S1x64 :=
    (held3_keep m ρ c main_v1 (by decide +kernel)).trans <| (held2_keep m ρ c main_v1 (by decide +kernel)).trans rfl
  rw [e]
  refine (shapeCast_addUnit_apply (α := Ideal .f32) ![64] _ shapeCasts_S64_S1x64 _).trans (congrArg _ ?_)
  exact funext fun a => match a with
    | ⟨0, _⟩ => rfl

/-! ## The arrays between the regions -/

/-- The support the first region leaves. -/
theorem at2_support (l : Fin 10000) (j : Fin 64) :
    at2 m ρ c main_v2_0 (ValueIdx.ix2 l j)
      = supportAt (m ((c : Thread nD τ).loc main_arg1)) (m ((c : Thread nD τ).loc main_arg2)) (m ((c : Thread nD τ).loc main_arg3))
          (m ((c : Thread nD τ).loc main_arg4)) (m ((c : Thread nD τ).loc main_arg5)) l j := by
  have e : at2 m ρ c main_v2_0 = _ := (held2_arr m ρ c 5).trans (support_array (at1 m ρ) c)
  rw [e, at1_arg m ρ c main_arg1 (by decide), at1_arg m ρ c main_arg2 (by decide), at1_arg m ρ c main_arg3 (by decide), at1_arg m ρ c main_arg5 (by decide)]
  exact Finset.sum_congr (M := EReal) rfl fun h _ => congrArg (fun b : EReal => max (_ + b) 0 * _) (at1_bias m ρ c h)

/-- The codes the first region leaves. -/
theorem at2_codes (i : S10000x10000.Idx) : at2 m ρ c main_v2_1 i = Ideal.fptoui 4 (level (m ((c : Thread nD τ).loc main_arg2) i)) := by
  have e : at2 m ρ c main_v2_1 = _ := (held2_arr m ρ c 6).trans (codes_array (at1 m ρ) c)
  rw [e, at1_arg m ρ c main_arg2 (by decide)]
  rfl

/-- The second region keeps the codes. -/
theorem at3_codes (i : S10000x10000.Idx) : at3 m ρ c main_v2_1 i = Ideal.fptoui 4 (level (m ((c : Thread nD τ).loc main_arg2) i)) := by
  have e : at3 m ρ c main_v2_1 = at2 m ρ c main_v2_1 := held3_keep m ρ c main_v2_1 (by decide +kernel)
  rw [e, at2_codes]

/-- What the second region leaves: the levels' product with the support, over 15. -/
theorem at3_product (k : Fin 10000) (j : Fin 64) :
    at3 m ρ c main_v3 (ValueIdx.ix2 k j)
      = (∑ l : Fin 10000, level (m ((c : Thread nD τ).loc main_arg2) (ValueIdx.ix2 k l))
          * supportAt (m ((c : Thread nD τ).loc main_arg1)) (m ((c : Thread nD τ).loc main_arg2)) (m ((c : Thread nD τ).loc main_arg3))
              (m ((c : Thread nD τ).loc main_arg4)) (m ((c : Thread nD τ).loc main_arg5)) l j) * ((15⁻¹ : ℝ) : EReal) := by
  have e : at3 m ρ c main_v3 = _ := (held3_arr m ρ c 2).trans (product_array (at2 m ρ) c)
  rw [e]
  refine congrArg (· * _) (Finset.sum_congr rfl fun l _ => congrArg₂ (· * ·) ?_ (at2_support m ρ c l j))
  exact (congrArg (fun x : BitVec 4 => ((x.toNat : ℝ) : EReal)) (at2_codes m ρ c _)).trans (code_level _)

/-- The kernel's result, from the arguments. -/
theorem kernel_at (r : Fin 10000) (j : Fin 64) :
    resultOf (at3 m ρ c main_v2_1) (at3 m ρ c main_v3) (at3 m ρ c main_v1) (ValueIdx.ix2 r j)
      = (∑ k : Fin 10000, level (m ((c : Thread nD τ).loc main_arg2) (ValueIdx.ix2 r k))
          * ((∑ l : Fin 10000, level (m ((c : Thread nD τ).loc main_arg2) (ValueIdx.ix2 k l))
              * supportAt (m ((c : Thread nD τ).loc main_arg1)) (m ((c : Thread nD τ).loc main_arg2)) (m ((c : Thread nD τ).loc main_arg3))
                  (m ((c : Thread nD τ).loc main_arg4)) (m ((c : Thread nD τ).loc main_arg5)) l j) * ((15⁻¹ : ℝ) : EReal))) * ((15⁻¹ : ℝ) : EReal)
        + m ((c : Thread nD τ).loc main_arg6) (ValueIdx.ix1 j) := by
  refine congrArg₂ (· + ·) (congrArg (· * _) (Finset.sum_congr rfl fun k _ => congrArg₂ (· * ·) ?_ (at3_product m ρ c k j))) (at3_bias m ρ c j)
  exact (congrArg (fun x : BitVec 4 => ((x.toNat : ℝ) : EReal)) (at3_codes m ρ c _)).trans (code_level _)

/-- The kernel's result array is the reference's function of the arguments. -/
theorem results_agree :
    (dat2 (at3 m ρ) c).arrAt 3 cfg2.N
      = Cert.ReferenceIdeal.Read.val_main_v18 (F := Ideal) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  rw [result_array]
  refine funext fun (i : S10000x64.Idx) => ?_
  obtain ⟨r, j, rfl⟩ : ∃ (r : Fin 10000) (j : Fin 64), i = ValueIdx.ix2 r j := ⟨i 0, i 1, same_index _ _ rfl rfl⟩
  refine (kernel_at m ρ c r j).trans (Eq.trans ?_ (reference_at _ _ _ _ _ _ r j).symm)
  exact congrArg (· + _) (two_scaled_products (fun r k => level (m ((c : Thread nD τ).loc main_arg2) (ValueIdx.ix2 r k)))
    (fun r k => (level_nat _).imp fun n h => h.2) _ r)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem

/-- At the printed values the named constant is read as its own bits, so that the two printed programs are one text there. -/
local instance : Named Bits := ⟨fun _ _ {φ} bits => Scalar.ofBits φ bits⟩

/-- Read so, the two programs have the same bodies, label by label, -/
theorem bodies_same : Cert.KernelIdeal.defs₀ (F := Bits) = Cert.Kernel.defs₀ (F := Bits) := by
  unfold Cert.KernelIdeal.defs₀ Cert.Kernel.defs₀
  refine congrArg Defs.onTc (funext fun (l : Fin 3) => ?_)
  match l with
  | ⟨0, _⟩ => exact funext fun _ => rfl
  | ⟨1, _⟩ => exact funext fun _ => rfl
  | ⟨2, _⟩ => exact funext fun _ => rfl

/-- and so the same definitions; their @main is one text. -/
theorem defs_same : Cert.KernelIdeal.defs (F := Bits) = Cert.Kernel.defs (F := Bits) :=
  congrArg (Pipeline.defs (Cert.Kernel.pcfgs (F := Bits))) bodies_same

/-- The kernel as printed runs to its end, leaves its arguments as they were and every counter at zero. -/
theorem frame_kernel : Cert.quiescent_Kernel := fun m ρ _ => by
  rw [← defs_same]
  exact (θ_run (Cert.KernelIdeal.defs (F := Bits)) _ _).mono
    (fun _ h => ⟨fun c => ⟨(h.1 c).1 _ (by decide), (h.1 c).1 _ (by decide), (h.1 c).1 _ (by decide), (h.1 c).1 _ (by decide), (h.1 c).1 _ (by decide), (h.1 c).1 _ (by decide), (h.1 c).1 _ (by decide)⟩, h.2⟩)
    (run_main (F := Bits) m ρ)

/-- The idealized kernel too. -/
theorem frame_ideal : Cert.quiescent_KernelIdeal := fun m ρ _ =>
  (θ_run (Cert.KernelIdeal.defs (F := Ideal)) _ _).mono
    (fun _ h => ⟨fun c => ⟨(h.1 c).1 _ (by decide), (h.1 c).1 _ (by decide), (h.1 c).1 _ (by decide), (h.1 c).1 _ (by decide), (h.1 c).1 _ (by decide), (h.1 c).1 _ (by decide), (h.1 c).1 _ (by decide)⟩, h.2⟩)
    (run_main (F := Ideal) m ρ)

/-- The reference too. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The only rewrite names the literal nearest 1/15. -/
theorem preserves : Cert.preserves_Kernel_KernelIdeal :=
  IdealRules.named_const.statement Cert.KernelIdeal.κ "fifteenth" .f32 0x3D888889#32 ((15⁻¹ : ℝ) : EReal) rfl

/-- From memories agreeing on the arguments, the kernel and the reference end with the same result. -/
theorem algebraic : Cert.algebraic_KernelIdeal_ReferenceIdeal := fun m ρ m' ρ' _ agree =>
  ⟨fun c => (dat2 (at3 m ρ) c).arrAt 3 Cert.KernelIdeal.cfg2.N,
    (θ_run (Cert.KernelIdeal.defs (F := Ideal)) _ _).mono
      (fun _ h c => ⟨(h.1 c).2, (h.1 c).1 _ (by decide), (h.1 c).1 _ (by decide), (h.1 c).1 _ (by decide), (h.1 c).1 _ (by decide), (h.1 c).1 _ (by decide), (h.1 c).1 _ (by decide), (h.1 c).1 _ (by decide)⟩)
      (run_main (F := Ideal) m ρ),
    (θ_run (Cert.ReferenceIdeal.defs (F := Ideal)) _ _).mono
      (fun r h c => ⟨by
        rw [(h c).1, Cert.ReferenceIdeal.Read.val_main_v18_eq, (agree c).2.1, (agree c).2.2.1, (agree c).2.2.2.1, (agree c).2.2.2.2.1,
          (agree c).2.2.2.2.2.1, (agree c).2.2.2.2.2.2]
        exact (results_agree m ρ c).symm, (h c).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, preserves, algebraic⟩

end Cert.Proof

end
